-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scales_in_range : Cert.Pre_scales_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
-- ==== Pre_scales_in_range.lean ====
abbrev S6x1x2560 : Shape := ⟨3, ![6, 1, 2560]⟩
abbrev S9728x2560 : Shape := ⟨2, ![9728, 2560]⟩
abbrev S6x1x20x128 : Shape := ⟨4, ![6, 1, 20, 128]⟩
abbrev S_ : Shape := ⟨0, ![]⟩
abbrev S6x1x20 : Shape := ⟨3, ![6, 1, 20]⟩
abbrev S76x128x20x128 : Shape := ⟨4, ![76, 128, 20, 128]⟩
abbrev S76x128x20 : Shape := ⟨3, ![76, 128, 20]⟩
abbrev S76x20 : Shape := ⟨2, ![76, 20]⟩

class Facts : Prop where
  bitsLt_bf16_f32 : FTy.bits .bf16 < FTy.bits .f32
  shapeCasts_S6x1x2560_S6x1x20x128 : S6x1x2560.ShapeCasts S6x1x20x128
  reducesTo_S6x1x20x128_S6x1x20_d3 : S6x1x20x128.ReducesTo [3] S6x1x20
  h_S_ : 0 < S_.numel
  shapeCasts_S9728x2560_S76x128x20x128 : S9728x2560.ShapeCasts S76x128x20x128
  reducesTo_S76x128x20x128_S76x128x20_d3 : S76x128x20x128.ReducesTo [3] S76x128x20
  reducesTo_S76x128x20_S76x20_d1 : S76x128x20.ReducesTo [1] S76x20
  bcast_S_S6x1x20 : S_.BroadcastsInDim S6x1x20 (![] : Fin 0 → Fin S6x1x20.rank)
  bcast_S_S76x20 : S_.BroadcastsInDim S76x20 (![] : Fin 0 → Fin S76x20.rank)
  reducesTo_S6x1x20_S_d0_1_2 : S6x1x20.ReducesTo [0, 1, 2] S_
  reducesTo_S76x20_S_d0_1 : S76x20.ReducesTo [0, 1] S_

variable [Facts]

def fn_part1 {F : FTy → Type} [FloatOps F] (main_v10 : FVec F S6x1x20 .f32) (main_v12 : FVec F S76x20 .f32) (main_v14 : IVec S6x1x20 1) (main_v16 : IVec S6x1x20 1) : IVec S_ 1 :=
  let main_cst_6 : FVec F S_ .f32 := constant S_ .f32 0x7E800000#32
  let main_v17 : FVec F S6x1x20 .f32 := broadcastInDim S6x1x20 ![] bcast_S_S6x1x20 main_cst_6
  let main_v18 : IVec S6x1x20 1 := cmpf .olt main_v10 main_v17
  let main_v19 : IVec S6x1x20 1 := andi main_v16 main_v18
  let main_v20 : IVec S6x1x20 1 := ori main_v14 main_v19
  let main_cst_7 : FVec F S_ .f32 := constant S_ .f32 0x00000000#32
  let main_v21 : FVec F S76x20 .f32 := broadcastInDim S76x20 ![] bcast_S_S76x20 main_cst_7
  let main_v22 : IVec S76x20 1 := cmpf .oeq main_v12 main_v21
  let main_cst_8 : FVec F S_ .f32 := constant S_ .f32 0x00800000#32
  let main_v23 : FVec F S76x20 .f32 := broadcastInDim S76x20 ![] bcast_S_S76x20 main_cst_8
  let main_v24 : IVec S76x20 1 := cmpf .oge main_v12 main_v23
  let main_cst_9 : FVec F S_ .f32 := constant S_ .f32 0x7E800000#32
  let main_v25 : FVec F S76x20 .f32 := broadcastInDim S76x20 ![] bcast_S_S76x20 main_cst_9
  let main_v26 : IVec S76x20 1 := cmpf .olt main_v12 main_v25
  let main_v27 : IVec S76x20 1 := andi main_v24 main_v26
  let main_v28 : IVec S76x20 1 := ori main_v22 main_v27
  let main_c : IVec S_ 1 := constantI S_ 1 1#1
  let main_v29 : IVec S_ 1 := (fun x v => Host.reduce IntOp.andi x v reducesTo_S6x1x20_S_d0_1_2 h_S_) main_v20 main_c
  let main_c_10 : IVec S_ 1 := constantI S_ 1 1#1
  let main_v30 : IVec S_ 1 := (fun x v => Host.reduce IntOp.andi x v reducesTo_S76x20_S_d0_1 h_S_) main_v28 main_c_10
  let main_v31 : IVec S_ 1 := andi main_v29 main_v30
  main_v31

def fn {F : FTy → Type} [FloatOps F] (main_arg0 : FVec F S6x1x2560 .bf16) (main_arg1 : FVec F S9728x2560 .bf16) : IVec S_ 1 :=
  let main_v0 : FVec F S6x1x2560 .f32 := (extf .f32 · bitsLt_bf16_f32) main_arg0
  let main_v1 : FVec F S6x1x2560 .f32 := Host.absf main_v0
  let main_v2 : FVec F S6x1x20x128 .f32 := shapeCast S6x1x20x128 main_v1 shapeCasts_S6x1x2560_S6x1x20x128
  let main_cst : FVec F S_ .f32 := constant S_ .f32 0xFF800000#32
  let main_v3 : FVec F S6x1x20 .f32 := (fun x v => Host.reduce FloatOps.maximumf x v reducesTo_S6x1x20x128_S6x1x20_d3 h_S_) main_v2 main_cst
  let main_v4 : FVec F S9728x2560 .f32 := (extf .f32 · bitsLt_bf16_f32) main_arg1
  let main_v5 : FVec F S9728x2560 .f32 := Host.absf main_v4
  let main_v6 : FVec F S76x128x20x128 .f32 := shapeCast S76x128x20x128 main_v5 shapeCasts_S9728x2560_S76x128x20x128
  let main_cst_0 : FVec F S_ .f32 := constant S_ .f32 0xFF800000#32
  let main_v7 : FVec F S76x128x20 .f32 := (fun x v => Host.reduce FloatOps.maximumf x v reducesTo_S76x128x20x128_S76x128x20_d3 h_S_) main_v6 main_cst_0
  let main_cst_1 : FVec F S_ .f32 := constant S_ .f32 0xFF800000#32
  let main_v8 : FVec F S76x20 .f32 := (fun x v => Host.reduce FloatOps.maximumf x v reducesTo_S76x128x20_S76x20_d1 h_S_) main_v7 main_cst_1
  let main_cst_2 : FVec F S_ .f32 := constant S_ .f32 0x3B124925#32
  let main_v9 : FVec F S6x1x20 .f32 := broadcastInDim S6x1x20 ![] bcast_S_S6x1x20 main_cst_2
  let main_v10 : FVec F S6x1x20 .f32 := mulf main_v3 main_v9
  let main_cst_3 : FVec F S_ .f32 := constant S_ .f32 0x3B124925#32
  let main_v11 : FVec F S76x20 .f32 := broadcastInDim S76x20 ![] bcast_S_S76x20 main_cst_3
  let main_v12 : FVec F S76x20 .f32 := mulf main_v8 main_v11
  let main_cst_4 : FVec F S_ .f32 := constant S_ .f32 0x00000000#32
  let main_v13 : FVec F S6x1x20 .f32 := broadcastInDim S6x1x20 ![] bcast_S_S6x1x20 main_cst_4
  let main_v14 : IVec S6x1x20 1 := cmpf .oeq main_v10 main_v13
  let main_cst_5 : FVec F S_ .f32 := constant S_ .f32 0x00800000#32
  let main_v15 : FVec F S6x1x20 .f32 := broadcastInDim S6x1x20 ![] bcast_S_S6x1x20 main_cst_5
  let main_v16 : IVec S6x1x20 1 := cmpf .oge main_v10 main_v15
  fn_part1 (F := F) main_v10 main_v12 main_v14 main_v16
-- ==== Kernel.lean ====
abbrev S6x1x2560 : Shape := ⟨3, ![6, 1, 2560]⟩
abbrev S9728x2560 : Shape := ⟨2, ![9728, 2560]⟩
abbrev S6x1x9728 : Shape := ⟨3, ![6, 1, 9728]⟩
abbrev S6x1x20 : Shape := ⟨3, ![6, 1, 20]⟩
abbrev S76x20 : Shape := ⟨2, ![76, 20]⟩
abbrev S512x2560 : Shape := ⟨2, ![512, 2560]⟩
abbrev S6x1x512 : Shape := ⟨3, ![6, 1, 512]⟩
abbrev S16x2560 : Shape := ⟨2, ![16, 2560]⟩
abbrev S6x20 : Shape := ⟨2, ![6, 20]⟩
abbrev S6x1x128 : Shape := ⟨3, ![6, 1, 128]⟩
abbrev S6x128 : Shape := ⟨2, ![6, 128]⟩
abbrev S6 : Shape := ⟨1, ![6]⟩
abbrev S6x1 : Shape := ⟨2, ![6, 1]⟩
abbrev S1x255 : Shape := ⟨2, ![1, 255]⟩
abbrev S6x255 : Shape := ⟨2, ![6, 255]⟩
abbrev S2x128 : Shape := ⟨2, ![2, 128]⟩
abbrev S8x128 : Shape := ⟨2, ![8, 128]⟩
abbrev S16x128 : Shape := ⟨2, ![16, 128]⟩
abbrev S1x20 : Shape := ⟨2, ![1, 20]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S128x256 : Shape := ⟨2, ![128, 256]⟩
abbrev S256x256 : Shape := ⟨2, ![256, 256]⟩
abbrev S16x256 : Shape := ⟨2, ![16, 256]⟩

abbrev nBuf : Space → Nat
  | .hbm => 7
  | .vmem => 11
  | .smem => 0
  | _ => 0

abbrev bufTy : (tb : Table) → Fin (tcTables nBuf tb) → BufTy
  | .hbm, ⟨0, _⟩ => ⟨S6x1x2560, .bf16⟩
  | .hbm, ⟨1, _⟩ => ⟨S9728x2560, .bf16⟩
  | .hbm, ⟨2, _⟩ => ⟨S6x1x9728, .bf16⟩
  | .hbm, ⟨3, _⟩ => ⟨S6x1x2560, .fp8e4m3⟩
  | .hbm, ⟨4, _⟩ => ⟨S6x1x20, .f32⟩
  | .hbm, ⟨5, _⟩ => ⟨S9728x2560, .fp8e4m3⟩
  | .hbm, ⟨6, _⟩ => ⟨S76x20, .f32⟩
  | .local _ .vmem, ⟨0, _⟩ => ⟨S6x1x2560, .bf16⟩
  | .local _ .vmem, ⟨1, _⟩ => ⟨S512x2560, .bf16⟩
  | .local _ .vmem, ⟨2, _⟩ => ⟨S512x2560, .bf16⟩
  | .local _ .vmem, ⟨3, _⟩ => ⟨S6x1x512, .bf16⟩
  | .local _ .vmem, ⟨4, _⟩ => ⟨S6x1x512, .bf16⟩
  | .local _ .vmem, ⟨5, _⟩ => ⟨S6x1x2560, .fp8e4m3⟩
  | .local _ .vmem, ⟨6, _⟩ => ⟨S6x1x20, .f32⟩
  | .local _ .vmem, ⟨7, _⟩ => ⟨S512x2560, .fp8e4m3⟩
  | .local _ .vmem, ⟨8, _⟩ => ⟨S512x2560, .fp8e4m3⟩
  | .local _ .vmem, ⟨9, _⟩ => ⟨S76x20, .f32⟩
  | .local _ .vmem, ⟨10, _⟩ => ⟨S16x2560, .bf16⟩
  | _, _ => ⟨S6x1x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![19], ![false]⟩

def k0_off1 (i : grid0.Coords) (c0_i32_835 : BitVec 32) : Fin 2 → Nat :=
  let arg0 : BitVec 32 := BitVec.ofNat 32 (i 0).val
  let c4_i32_834 : BitVec 32 := 4#32
  let v2423 : BitVec 32 := Scalar.muli arg0 c4_i32_834
  let v2424 : BitVec 32 := Scalar.addi v2423 c0_i32_835
  let v2425 : Index := Scalar.indexCast v2424
  let c0_836 : Index := 0#32
  ![v2425.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S6x1x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x1x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x1x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2560 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S76x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S6x1x2560 : Shape := ⟨3, ![6, 1, 2560]⟩
abbrev S9728x2560 : Shape := ⟨2, ![9728, 2560]⟩
abbrev S6x1x9728 : Shape := ⟨3, ![6, 1, 9728]⟩
abbrev S6x1x20 : Shape := ⟨3, ![6, 1, 20]⟩
abbrev S76x20 : Shape := ⟨2, ![76, 20]⟩
abbrev S6x1x20x128 : Shape := ⟨4, ![6, 1, 20, 128]⟩
abbrev S6x1x20x253 : Shape := ⟨4, ![6, 1, 20, 253]⟩
abbrev S6x1x20x1 : Shape := ⟨4, ![6, 1, 20, 1]⟩
abbrev S76x128x20x128 : Shape := ⟨4, ![76, 128, 20, 128]⟩
abbrev S76x128x20 : Shape := ⟨3, ![76, 128, 20]⟩
abbrev S76x20x253 : Shape := ⟨3, ![76, 20, 253]⟩
abbrev S76x20x1 : Shape := ⟨3, ![76, 20, 1]⟩
abbrev S76x1x20x1 : Shape := ⟨4, ![76, 1, 20, 1]⟩
abbrev S6x2560 : Shape := ⟨2, ![6, 2560]⟩
abbrev S6x9728 : Shape := ⟨2, ![6, 9728]⟩

abbrev nBuf : Space → Nat
  | .hbm => 7
  | .vmem => 7
  | .smem => 0
  | _ => 0

abbrev bufTy : (tb : Table) → Fin (tcTables nBuf tb) → BufTy
  | .hbm, ⟨0, _⟩ => ⟨S6x1x2560, .bf16⟩
  | .hbm, ⟨1, _⟩ => ⟨S9728x2560, .bf16⟩
  | .hbm, ⟨2, _⟩ => ⟨S6x1x9728, .bf16⟩
  | .hbm, ⟨3, _⟩ => ⟨S6x1x2560, .fp8e4m3⟩
  | .hbm, ⟨4, _⟩ => ⟨S6x1x20, .f32⟩
  | .hbm, ⟨5, _⟩ => ⟨S9728x2560, .fp8e4m3⟩
  | .hbm, ⟨6, _⟩ => ⟨S76x20, .f32⟩
  | .local _ .vmem, ⟨0, _⟩ => ⟨S6x1x2560, .bf16⟩
  | .local _ .vmem, ⟨1, _⟩ => ⟨S9728x2560, .bf16⟩
  | .local _ .vmem, ⟨2, _⟩ => ⟨S6x1x9728, .bf16⟩
  | .local _ .vmem, ⟨3, _⟩ => ⟨S6x1x2560, .fp8e4m3⟩
  | .local _ .vmem, ⟨4, _⟩ => ⟨S6x1x20, .f32⟩
  | .local _ .vmem, ⟨5, _⟩ => ⟨S9728x2560, .fp8e4m3⟩
  | .local _ .vmem, ⟨6, _⟩ => ⟨S76x20, .f32⟩
  | _, _ => ⟨S6x1x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x1x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9728x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1x9728 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x1x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9728x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S76x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.BitsRuns.lean ====
/- What the runs of the kernel's body at the bits share: the branch condition in closed form over the grid points, the staging
   memrefs and the scratch buffer, and how the frame claim is read off a run. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Block

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 19 = 0 :=
  (fun t => by
    have ht : t.val < 19 := Nat.lt_of_lt_of_eq t.isLt N_0
    have e0 : (grid0.coords t 0).val = t.val / 1 % 19 := Pipeline.Grid.coords_val t 0 (by decide) rfl
    simp only [cond0_0, k0_cond1, e0]
    word_cmp
   : ∀ t : Fin grid0.N, cond0_0 (grid0.coords t) ↔ t.val % 19 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S6x1x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2560 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x1x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x1x2560 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x1x20 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2560 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S76x20 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S16x2560 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Block

end
-- ==== Proof.BitsRunA.lean ====
/- The body at the bits, at the first grid point: its triple. -/
module

public import proofs.«01_k».proof.Proof.BitsRuns

@[expose] public section

set_option maxRecDepth 16384

noncomputable section

namespace Cert.Kernel.Block

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4128000 in
/-- The body's triple IN CASE A (`scf.if` 0 taken: points 0): on whole staging memrefs — the inputs' at their contents,
    the FORGOTTEN outputs' (2, 3, 4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S6x1x2560 .bf16) (harg1 : arg1.IsWhole) (arg2 : Memref sig .tc .vmem S512x2560 .bf16) (harg2 : arg2.IsWhole) (arg3 : Memref sig .tc .vmem S6x1x512 .bf16) (harg3 : arg3.IsWhole) (arg4 : Memref sig .tc .vmem S6x1x2560 .fp8e4m3) (harg4 : arg4.IsWhole) (arg5 : Memref sig .tc .vmem S6x1x20 .f32) (harg5 : arg5.IsWhole) (arg6 : Memref sig .tc .vmem S512x2560 .fp8e4m3) (harg6 : arg6.IsWhole) (arg7 : Memref sig .tc .vmem S76x20 .f32) (harg7 : arg7.IsWhole) (arg8 : Memref sig .tc .vmem S16x2560 .bf16) (harg8 : arg8.IsWhole) (hc0 : cond0_0 i)
    (x0 : Vec F S6x1x2560 .bf16) (x1 : Vec F S512x2560 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_fp8_block_linear i arg1 harg1 arg2 harg2 arg3 harg3 arg4 harg4 arg5 harg5 arg6 harg6 arg7 harg7 arg8 harg8) K := by
    intro E K
    simp only [cc0_fp8_block_linear_eq_skeleton]; unfold cc0_fp8_block_linear_skel
    simp only [k0_part144_eq_skeleton, k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part145_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact HS0
    ipureintro; rfl

end Cert.Kernel.Block

end
-- ==== Proof.BitsRunB.lean ====
/- The body at the bits, at every later grid point: its triple. -/
module

public import proofs.«01_k».proof.Proof.BitsRunA

@[expose] public section

set_option maxRecDepth 16384

noncomputable section

namespace Cert.Kernel.Block

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3120000 in
/-- The body's triple IN CASE B (`scf.if` 0 not taken: points 1, 2, … 18: 18 of 19): on whole staging memrefs — the inputs' at their contents,
    the FORGOTTEN outputs' (2, 3, 4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S6x1x2560 .bf16) (harg1 : arg1.IsWhole) (arg2 : Memref sig .tc .vmem S512x2560 .bf16) (harg2 : arg2.IsWhole) (arg3 : Memref sig .tc .vmem S6x1x512 .bf16) (harg3 : arg3.IsWhole) (arg4 : Memref sig .tc .vmem S6x1x2560 .fp8e4m3) (harg4 : arg4.IsWhole) (arg5 : Memref sig .tc .vmem S6x1x20 .f32) (harg5 : arg5.IsWhole) (arg6 : Memref sig .tc .vmem S512x2560 .fp8e4m3) (harg6 : arg6.IsWhole) (arg7 : Memref sig .tc .vmem S76x20 .f32) (harg7 : arg7.IsWhole) (arg8 : Memref sig .tc .vmem S16x2560 .bf16) (harg8 : arg8.IsWhole) (hc0 : ¬cond0_0 i)
    (x0 : Vec F S6x1x2560 .bf16) (x1 : Vec F S512x2560 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_fp8_block_linear i arg1 harg1 arg2 harg2 arg3 harg3 arg4 harg4 arg5 harg5 arg6 harg6 arg7 harg7 arg8 harg8) K := by
    intro E K
    simp only [cc0_fp8_block_linear_eq_skeleton]; unfold cc0_fp8_block_linear_skel
    simp only [k0_part144_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part145_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact HS0
    ipureintro; rfl

end Cert.Kernel.Block

end
-- ==== Proof.BitsFrame.lean ====
/- The frame of the kernel at the bits: every run terminates with the two argument arrays unchanged and every semaphore
   at zero. Nothing is said here of what the result arrays hold. -/
module

public import proofs.«01_k».proof.Proof.BitsRunB
public import Idealize.ShloMosaic.Lib.Claim

@[expose] public section

set_option maxRecDepth 16384

noncomputable section

namespace Cert.Kernel.Block

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows left unnamed (2, 3, 4, 5, 6): nothing reads what the kernel leaves in them, so nothing
    of it is named (Lib/Pipeline/Dat.lean `Dat.toRForget`). -/
def forgets0 : Fin 7 → Bool := fun w => w.val == 2 || w.val == 3 || w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 19 := lt_of_lt_of_eq t.isLt (show cfg0.N = 19 from N_0)
  by_cases h0 : t.val % 19 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ ((hcond0_0 t).mpr h0) (iblk m c 0 t) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ (fun h => h0 ((hcond0_0 t).mp h)) (iblk m c 0 t) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 2, 3, 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- The frame: the arguments end unchanged and every semaphore counter at zero, at any number system. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Block

end
-- ==== Proof.Vocab.lean ====
/- What the kernel computes, block by block, in the kernel's own operations: the quantiser of one 128 by 128 block of
   the weights and of one group of 128 lanes of the activations, the pieces each output is stored in, and each output
   as one value of the two inputs. Stated at any values `F`. -/
module

public import proofs.«01_k».proof.Proof.Gen.KernelIdeal.Skeleton
public import Idealize.ShloMosaic.Lib.Pipeline.FrameBody
public import Idealize.ShloMosaic.Lib.Pipeline.Value
public import Idealize.ShloMosaic.Lib.Pipeline.ValueKit

@[expose] public section

set_option maxRecDepth 16384

noncomputable section

namespace Cert.KernelIdeal.Block

open Idealize.ShloMosaic Idealize.ShloMosaic.Pipeline Cert.KernelIdeal Cert.KernelIdeal.Gen

variable {F : FTy → Type} [FloatOps F]

/-! ## The exponent of a threshold -/

/-- The powers of two `2^-126 … 2^128` as the words with that exponent and no fraction (the last reads as infinity). -/
def pows : FVec F S1x255 .f32 :=
  bitcastToFloat .f32 (shli (addi (iota .tc S1x255 32 [1] iota_S1x255_d1_w32) (broadcast S1x255 1#32)) (broadcast S1x255 23#32))

/-- The exponent from the number of powers at most the threshold: the power of two strictly above it. -/
def expOf {s : Shape} (n : IVec s 32) : IVec s 32 :=
  select (ori (cmpi .eq n (broadcast s 0#32)) (cmpi .eq n (broadcast s 255#32))) (broadcast s 0#32) (subi n (broadcast s 126#32))

/-- Two to an exponent, as a word. -/
def scaleOf {s : Shape} (e : IVec s 32) : FVec F s .f32 :=
  bitcastToFloat .f32 (shli (addi e (broadcast s 127#32)) (broadcast s 23#32))

/-- Two to the exponent's opposite, as a word. -/
def invOf {s : Shape} (e : IVec s 32) : FVec F s .f32 :=
  bitcastToFloat .f32 (shli (subi (broadcast s 127#32) e) (broadcast s 23#32))

/-! ## A block of the weights -/

/-- The threshold of a block: its largest absolute value over 448. -/
def wT (b : Vec F S128x128 .bf16) : FVec F S1x1 .f32 :=
  mulf (shapeCast S1x1 (multiReduction .maximumf [1] S1
      (extf .f32 (shapeCast S1x128 (multiReduction .maximumf [0] S128 (absf b) 0xFF80#16 reduces_S128x128_S128 (.inr rfl) rfl)
        shapeCasts_S128_S1x128) bitsLt_bf16_f32) 0xFF800000#32 reduces_S1x128_S1 (.inl rfl) rfl) shapeCasts_S1_S1x1)
    (broadcast S1x1 (Scalar.ofBits .f32 0x3B124925#32))

/-- Its exponent. -/
def wE (b : Vec F S128x128 .bf16) : IVec S1x1 32 :=
  expOf (shapeCast S1x1 (multiReductionI .add [1] S1
    (extui 32 (cmpf .oge (broadcastTo S1x255 (wT b) broadcasts_S1x1_S1x255) pows) natLt_1_32) 0#32 reduces_S1x255_S1 rfl)
    shapeCasts_S1_S1x1)

/-- Its scale. -/
def wS (b : Vec F S128x128 .bf16) : FVec F S1x1 .f32 := scaleOf (wE b)

/-- Its codes. -/
def wCodes (b : Vec F S128x128 .bf16) : FVec F S128x128 .fp8e4m3 :=
  truncf .fp8e4m3 (minimumf (broadcast S128x128 (Scalar.truncf .bf16 bitsLt_bf16_f32 (Scalar.ofBits .f32 0x43E00000#32)))
    (maximumf (broadcast S128x128 (Scalar.truncf .bf16 bitsLt_bf16_f32 (Scalar.ofBits .f32 0xC3E00000#32)))
      (mulf b (broadcastTo S128x128 (truncf .bf16 (invOf (wE b)) bitsLt_bf16_f32) broadcasts_S1x1_S128x128))))
    bitsLt_fp8e4m3_bf16

theorem wInb (r : Fin 4) (g : Fin 20) : ∀ a, (![128 * r.val, 128 * g.val] : Fin 2 → Nat) a + S128x128.size a ≤ S512x2560.size a := by
  intro a; have := r.isLt; have := g.isLt
  match a with
  | ⟨0, _⟩ => show 128 * r.val + 128 ≤ 512; omega
  | ⟨1, _⟩ => show 128 * g.val + 128 ≤ 2560; omega

/-- The rectangle of block row `r`, block column `g`. -/
abbrev wRect (r : Fin 4) (g : Fin 20) : Rect S512x2560 :=
  Rect.unit (s := S512x2560) ![128 * r.val, 128 * g.val] S128x128.size (wInb r g)

/-- That block. -/
def wBlk (X : Vec F S512x2560 .bf16) (r : Fin 4) (g : Fin 20) : Vec F S128x128 .bf16 := View.ld X (wRect r g)

/-- One step of the row of scales: lane `g` takes the scale `s`. -/
def wsStep (acc : FVec F S1x20 .f32) (g : Fin 20) (s : FVec F S1x1 .f32) : FVec F S1x20 .f32 :=
  select (cmpi .eq (iota .tc S1x20 32 [1] iota_S1x20_d1_w32) (broadcast S1x20 (BitVec.ofNat 32 g.val)))
    (broadcastTo S1x20 (shapeCast S1x1 s shapeCasts_S1x1_S1x1) broadcasts_S1x1_S1x20) acc

/-- The twenty groups, in order. -/
abbrev lanes : List (Fin 20) := [0, 1, 2, 3, 4, 5, 6, 7, 8, 9, 10, 11, 12, 13, 14, 15, 16, 17, 18, 19]

/-- Block row `r`'s row of scales. -/
def wsRow (X : Vec F S512x2560 .bf16) (r : Fin 4) : FVec F S1x20 .f32 :=
  lanes.foldl (fun acc g => wsStep acc g (wS (wBlk X r g))) (broadcast S1x20 (Scalar.ofBits .f32 0x00000000#32))

/-! ## A group of the activations -/

/-- The group's values. -/
def xF (v : Vec F S6x1x128 .bf16) : FVec F S6x128 .f32 :=
  extf .f32 (shapeCast S6x128 v shapeCasts_S6x1x128_S6x128) bitsLt_bf16_f32

/-- Each row's threshold. -/
def xT (v : Vec F S6x1x128 .bf16) : FVec F S6x1 .f32 :=
  mulf (shapeCast S6x1 (multiReduction .maximumf [1] S6 (absf (xF v)) 0xFF800000#32 reduces_S6x128_S6 (.inl rfl) rfl)
    shapeCasts_S6_S6x1) (broadcast S6x1 (Scalar.ofBits .f32 0x3B124925#32))

/-- Each row's exponent. -/
def xE (v : Vec F S6x1x128 .bf16) : IVec S6x1 32 :=
  expOf (shapeCast S6x1 (multiReductionI .add [1] S6
    (extui 32 (cmpf .oge (broadcastTo S6x255 (xT v) broadcasts_S6x1_S6x255) (broadcastTo S6x255 pows broadcasts_S1x255_S6x255)) natLt_1_32)
    0#32 reduces_S6x255_S6 rfl) shapeCasts_S6_S6x1)

/-- Each row's scale. -/
def xS (v : Vec F S6x1x128 .bf16) : FVec F S6x1 .f32 := scaleOf (xE v)

/-- The group's codes. -/
def xCodes (v : Vec F S6x1x128 .bf16) : FVec F S6x128 .fp8e4m3 :=
  truncf .fp8e4m3 (minimumf (broadcast S6x128 (Scalar.ofBits .f32 0x43E00000#32))
    (maximumf (broadcast S6x128 (Scalar.ofBits .f32 0xC3E00000#32))
      (mulf (xF v) (broadcastTo S6x128 (invOf (xE v)) broadcasts_S6x1_S6x128)))) bitsLt_fp8e4m3_f32

/-- The codes as stored. -/
def xCodes3 (v : Vec F S6x1x128 .bf16) : FVec F S6x1x128 .fp8e4m3 := shapeCast S6x1x128 (xCodes v) shapeCasts_S6x128_S6x1x128

/-- The codes times their scale, two rows of zeros below. -/
def xDeq (v : Vec F S6x1x128 .bf16) : FVec F S8x128 .f32 :=
  concatenate S8x128 0 [⟨S6x128, mulf (extf .f32 (xCodes v) bitsLt_fp8e4m3_f32) (broadcastTo S6x128 (xS v) broadcasts_S6x1_S6x128)⟩,
    ⟨S2x128, broadcast S2x128 (Scalar.ofBits .f32 0x00000000#32)⟩] concatenates_S6x128_S2x128_S8x128_d0

/-- The piece of the left operand group `g` fills: an even group's rows above zeros, an odd group's below. -/
def lhsPiece (v : Vec F S6x1x128 .bf16) (g : Fin 20) : FVec F S16x128 .bf16 :=
  shapeCast S16x128 (truncf .bf16
    (if g.val % 2 = 0 then
      concatenate S16x128 0 [⟨S8x128, xDeq v⟩, ⟨S8x128, broadcast S8x128 (Scalar.ofBits .f32 0x00000000#32)⟩] concatenates_S8x128_S8x128_S16x128_d0
    else
      concatenate S16x128 0 [⟨S8x128, broadcast S8x128 (Scalar.ofBits .f32 0x00000000#32)⟩, ⟨S8x128, xDeq v⟩] concatenates_S8x128_S8x128_S16x128_d0)
    bitsLt_bf16_f32) shapeCasts_S16x128_S16x128

theorem xInb (g : Fin 20) : ∀ a, (![0, 0, 128 * g.val] : Fin 3 → Nat) a + S6x1x128.size a ≤ S6x1x2560.size a := by
  intro a; have := g.isLt
  match a with
  | ⟨0, _⟩ => show 0 + 6 ≤ 6; omega
  | ⟨1, _⟩ => show 0 + 1 ≤ 1; omega
  | ⟨2, _⟩ => show 128 * g.val + 128 ≤ 2560; omega

/-- The rectangle of group `g`. -/
abbrev xRect (g : Fin 20) : Rect S6x1x2560 := Rect.unit (s := S6x1x2560) ![0, 0, 128 * g.val] S6x1x128.size (xInb g)

/-- That group. -/
def xBlk (X : Vec F S6x1x2560 .bf16) (g : Fin 20) : Vec F S6x1x128 .bf16 := View.ld X (xRect g)

/-- One step of the activations' scales. -/
def xsStep (acc : FVec F S6x20 .f32) (g : Fin 20) (s : FVec F S6x1 .f32) : FVec F S6x20 .f32 :=
  select (cmpi .eq (iota .tc S6x20 32 [1] iota_S6x20_d1_w32) (broadcast S6x20 (BitVec.ofNat 32 g.val)))
    (broadcastTo S6x20 (shapeCast S6x1 s shapeCasts_S6x1_S6x1) broadcasts_S6x1_S6x20) acc

/-- The activations' scales, as stored. -/
def XS (X : Vec F S6x1x2560 .bf16) : FVec F S6x1x20 .f32 :=
  shapeCast S6x1x20 (lanes.foldl (fun acc g => xsStep acc g (xS (xBlk X g)))
    (broadcast S6x20 (Scalar.ofBits .f32 0x00000000#32))) shapeCasts_S6x20_S6x1x20

/-! ## One product, and a column block of `y` -/

/-- Ten steps of 256 lanes. -/
abbrev steps : List (Fin 10) := [0, 1, 2, 3, 4, 5, 6, 7, 8, 9]

theorem lInb (k : Fin 10) : ∀ a, (![0, 256 * k.val] : Fin 2 → Nat) a + S16x256.size a ≤ S16x2560.size a := by
  intro a; have := k.isLt
  match a with
  | ⟨0, _⟩ => show 0 + 16 ≤ 16; omega
  | ⟨1, _⟩ => show 256 * k.val + 256 ≤ 2560; omega

/-- Step `k`'s rectangle of the left operand. -/
abbrev lRect (k : Fin 10) : Rect S16x2560 := Rect.unit (s := S16x2560) ![0, 256 * k.val] S16x256.size (lInb k)

/-- The even group of step `k`, and the odd. -/
abbrev g0 (k : Fin 10) : Fin 20 := ⟨2 * k.val, by have := k.isLt; omega⟩
abbrev g1 (k : Fin 10) : Fin 20 := ⟨2 * k.val + 1, by have := k.isLt; omega⟩
/-- The first block row of pair `p`, and the second. -/
abbrev r0 (p : Fin 2) : Fin 4 := ⟨2 * p.val, by have := p.isLt; omega⟩
abbrev r1 (p : Fin 2) : Fin 4 := ⟨2 * p.val + 1, by have := p.isLt; omega⟩

/-- The product of step `k` for the two block rows of pair `p`. -/
def part (l : Vec F S16x256 .bf16) (X : Vec F S512x2560 .bf16) (p : Fin 2) (k : Fin 10) : FVec F S16x256 .f32 :=
  matmul dot_S16x256_S256x256_S16x256_1_1_0_0_n_n none l
    (concatenate S256x256 0
      [⟨S128x256, concatenate S128x256 1 [⟨S128x128, wCodes (wBlk X (r0 p) (g0 k))⟩, ⟨S128x128, wCodes (wBlk X (r0 p) (g1 k))⟩]
          concatenates_S128x128_S128x128_S128x256_d1⟩,
        ⟨S128x256, concatenate S128x256 1 [⟨S128x128, wCodes (wBlk X (r1 p) (g0 k))⟩, ⟨S128x128, wCodes (wBlk X (r1 p) (g1 k))⟩]
          concatenates_S128x128_S128x128_S128x256_d1⟩] concatenates_S128x256_S128x256_S256x256_d0)
    (constant S16x256 .f32 0x00000000#32)

theorem sliceLo : ∀ b : Fin 2, S16x256.Slices ![0, 128 * b.val] S8x128 := by decide
theorem sliceHi : ∀ b : Fin 2, S16x256.Slices ![8, 128 * b.val] S8x128 := by decide

/-- The row of the block row `b` of pair `p`. -/
abbrev rb (p b : Fin 2) : Fin 4 := ⟨2 * p.val + b.val, by have := p.isLt; have := b.isLt; omega⟩

/-- One step of the accumulator of block row `b` of pair `p`. -/
def accStep (L : Fin 10 → Vec F S16x256 .bf16) (X : Vec F S512x2560 .bf16) (p b : Fin 2) (acc : FVec F S8x128 .f32) (k : Fin 10) :
    FVec F S8x128 .f32 :=
  addf (addf acc
      (mulf (extractStridedSlice S8x128 ![0, 128 * b.val] (part (L k) X p k) (sliceLo b))
        (broadcastTo S8x128 (wS (wBlk X (rb p b) (g0 k))) broadcasts_S1x1_S8x128)))
    (mulf (extractStridedSlice S8x128 ![8, 128 * b.val] (part (L k) X p k) (sliceHi b))
      (broadcastTo S8x128 (wS (wBlk X (rb p b) (g1 k))) broadcasts_S1x1_S8x128))

/-- The column block of `y` of block row `b` of pair `p`. -/
def yPiece (L : Fin 10 → Vec F S16x256 .bf16) (X : Vec F S512x2560 .bf16) (p b : Fin 2) : FVec F S6x1x128 .bf16 :=
  shapeCast S6x1x128 (truncf .bf16 (extractStridedSlice S6x128 ![0, 0]
    (steps.foldl (accStep L X p b) (broadcast S8x128 (Scalar.ofBits .f32 0x00000000#32))) slices_S8x128_o0_0_S6x128) bitsLt_bf16_f32)
    shapeCasts_S6x128_S6x1x128

end Cert.KernelIdeal.Block

end
-- ==== Proof.Runs.lean ====
/- What the runs of the body share: the branch condition in closed form over the grid points, the staging memrefs and the
   scratch buffer. -/
module

public import proofs.«01_k».proof.Proof.Gen.KernelIdeal.Frame
public import proofs.«01_k».proof.Proof.Vocab
public import Idealize.ShloMosaic.Lib.Ring
public import Idealize.ShloMosaic.Lib.Tactic
public import Idealize.ShloMosaic.Lib.WordCmp

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 19 = 0 :=
  (fun t => by
    have ht : t.val < 19 := Nat.lt_of_lt_of_eq t.isLt N_0
    have e0 : (grid0.coords t 0).val = t.val / 1 % 19 := Pipeline.Grid.coords_val t 0 (by decide) rfl
    simp only [cond0_0, k0_cond1, e0]
    word_cmp
   : ∀ t : Fin grid0.N, cond0_0 (grid0.coords t) ↔ t.val % 19 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S6x1x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2560 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x1x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x1x2560 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x1x20 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2560 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S76x20 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S16x2560 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Block

end
-- ==== Proof.Store.lean ====
/- Each output block as one value of the inputs, and the pieces the kernel stores it in: what a buffer reads after the
   pieces are written. -/
module

public import proofs.«01_k».proof.Proof.Vocab
public import Idealize.ShloMosaic.Lib.Pointwise

@[expose] public section

set_option maxRecDepth 16384

noncomputable section

namespace Cert.KernelIdeal.Block

open Idealize.ShloMosaic Idealize.ShloMosaic.Pipeline Cert.KernelIdeal Cert.KernelIdeal.Gen

variable {F : FTy → Type} [FloatOps F]

/-- Pieces that agree with one function `G` and cover the shape leave `G`, whatever was there. -/
theorem read_pieces {κ : Kind} {sp : Space} {s : Shape} {e : EltTy} (v : View sig κ sp s e) (f : v.ty.Contents (Elt F))
    (L : List (View.Piece (Elt F) s e)) (G : s.Idx → Elt F e) (hcov : ∀ y, ∃ p ∈ L, y ∈ p.1.set)
    (hG : ∀ p ∈ L, ∀ x, p.2 x = G (p.1.emb x)) : v.read (Elt F) (v.writes (Elt F) f L) = G :=
  (View.read_writes_eq_canon v f L hcov).trans (funext fun y => View.canon_apply_of_pieces G L hG y (hcov y))

/-! ## The codes of the weights -/

/-- The codes of a whole block of 512 rows. -/
def WC (X : Vec F S512x2560 .bf16) : Vec F S512x2560 .fp8e4m3 := fun y =>
  wCodes (wBlk X ⟨(y 0).val / 128, Nat.div_lt_of_lt_mul (y 0).isLt⟩ ⟨(y 1).val / 128, Nat.div_lt_of_lt_mul (y 1).isLt⟩)
    (ix2 ⟨(y 0).val % 128, Nat.mod_lt _ (by decide)⟩ ⟨(y 1).val % 128, Nat.mod_lt _ (by decide)⟩)

theorem WC_emb (X : Vec F S512x2560 .bf16) (r : Fin 4) (g : Fin 20) (x : S128x128.Idx) :
    wCodes (wBlk X r g) x = WC X ((wRect r g).emb x) := by
  have e0 : (((wRect r g).emb x) 0).val = 128 * r.val + (x 0).val := by rw [Rect.emb_apply]; show _ + 1 * _ = _; rw [one_mul]; rfl
  have e1 : (((wRect r g).emb x) 1).val = 128 * g.val + (x 1).val := by rw [Rect.emb_apply]; show _ + 1 * _ = _; rw [one_mul]; rfl
  have h0 : (x 0).val < 128 := (x 0).isLt
  have h1 : (x 1).val < 128 := (x 1).isLt
  unfold WC
  congr 1
  · congr 2 <;> apply Fin.ext <;> simp only [e0, e1] <;> omega
  · refine (eq_ix2 (n0 := 128) (n1 := 128) x).trans ?_
    congr 1 <;> apply Fin.ext <;> simp only [e0, e1] <;> omega

/-- The block rows and columns in the order stored, last first. -/
abbrev tiles : List (Fin 4 × Fin 20) :=
  ([1, 0] : List (Fin 2)).flatMap fun p => ([9, 8, 7, 6, 5, 4, 3, 2, 1, 0] : List (Fin 10)).flatMap fun k =>
    [(r1 p, g1 k), (r1 p, g0 k), (r0 p, g1 k), (r0 p, g0 k)]

theorem WC_cover (X : Vec F S512x2560 .bf16) (y : S512x2560.Idx) :
    ∃ p ∈ tiles.map (fun t => (⟨wRect t.1 t.2, wCodes (wBlk X t.1 t.2)⟩ : View.Piece (Elt F) S512x2560 .fp8e4m3)), y ∈ p.1.set := by
  have key : ∀ r : Fin 4, ∀ g : Fin 20, (r, g) ∈ tiles := by decide
  have h0 : (y 0).val < 512 := (y 0).isLt
  have h1 : (y 1).val < 2560 := (y 1).isLt
  refine ⟨_, List.mem_map_of_mem (key ⟨(y 0).val / 128, by omega⟩ ⟨(y 1).val / 128, by omega⟩), ?_⟩
  rw [Rect.mem_set_unit]; intro a
  match a with
  | ⟨0, _⟩ => constructor; · show 128 * ((y 0).val / 128) ≤ (y 0).val; omega
              · show (y 0).val < 128 * ((y 0).val / 128) + 128; omega
  | ⟨1, _⟩ => constructor; · show 128 * ((y 1).val / 128) ≤ (y 1).val; omega
              · show (y 1).val < 128 * ((y 1).val / 128) + 128; omega

theorem read_WC {κ : Kind} {sp : Space} (v : View sig κ sp S512x2560 .fp8e4m3) (f : v.ty.Contents (Elt F)) (X : Vec F S512x2560 .bf16) :
    v.read (Elt F) (v.writes (Elt F) f (tiles.map fun t => ⟨wRect t.1 t.2, wCodes (wBlk X t.1 t.2)⟩)) = WC X :=
  read_pieces v f _ _ (WC_cover X) fun p hp => by
    obtain ⟨t, -, rfl⟩ := List.mem_map.mp hp
    exact fun x => WC_emb X t.1 t.2 x

/-! ## The result -/

theorem yInb (j : Fin 4) : ∀ a, (![0, 0, 128 * j.val] : Fin 3 → Nat) a + S6x1x128.size a ≤ S6x1x512.size a := by
  intro a; have := j.isLt
  match a with
  | ⟨0, _⟩ => show 0 + 6 ≤ 6; omega
  | ⟨1, _⟩ => show 0 + 1 ≤ 1; omega
  | ⟨2, _⟩ => show 128 * j.val + 128 ≤ 512; omega

/-- The rectangle of column block `j`. -/
abbrev yRect (j : Fin 4) : Rect S6x1x512 := Rect.unit (s := S6x1x512) ![0, 0, 128 * j.val] S6x1x128.size (yInb j)

/-- The pair of block row `j`, and its place in the pair. -/
abbrev jp (j : Fin 4) : Fin 2 := ⟨j.val / 2, by have := j.isLt; omega⟩
abbrev jb (j : Fin 4) : Fin 2 := ⟨j.val % 2, by omega⟩

/-- 512 columns of the result, from the left operand's ten loads and the weights' block. -/
def YB (L : Fin 10 → Vec F S16x256 .bf16) (X : Vec F S512x2560 .bf16) : Vec F S6x1x512 .bf16 := fun y =>
  yPiece L X (jp ⟨(y 2).val / 128, Nat.div_lt_of_lt_mul (y 2).isLt⟩) (jb ⟨(y 2).val / 128, Nat.div_lt_of_lt_mul (y 2).isLt⟩)
    (ix3 (y 0) (y 1) ⟨(y 2).val % 128, Nat.mod_lt _ (by decide)⟩)

theorem YB_emb (L : Fin 10 → Vec F S16x256 .bf16) (X : Vec F S512x2560 .bf16) (j : Fin 4) (x : S6x1x128.Idx) :
    yPiece L X (jp j) (jb j) x = YB L X ((yRect j).emb x) := by
  have e2 : (((yRect j).emb x) 2).val = 128 * j.val + (x 2).val := by rw [Rect.emb_apply]; show _ + 1 * _ = _; rw [one_mul]; rfl
  have h2 : (x 2).val < 128 := (x 2).isLt
  have hj : (⟨(((yRect j).emb x) 2).val / 128, Nat.div_lt_of_lt_mul (((yRect j).emb x) 2).isLt⟩ : Fin 4) = j := by
    apply Fin.ext; simp only [e2]; omega
  unfold YB
  rw [hj]
  congr 1
  refine (eq_ix3 (n0 := 6) (n1 := 1) (n2 := 128) x).trans ?_
  congr 1
  · apply Fin.ext; rw [Rect.emb_apply]; show _ = 0 + 1 * _; omega
  · exact Subsingleton.elim _ _
  · apply Fin.ext; simp only [e2]; omega

abbrev cols : List (Fin 4) := [3, 2, 1, 0]

theorem read_YB {κ : Kind} {sp : Space} (v : View sig κ sp S6x1x512 .bf16) (f : v.ty.Contents (Elt F))
    (L : Fin 10 → Vec F S16x256 .bf16) (X : Vec F S512x2560 .bf16) :
    v.read (Elt F) (v.writes (Elt F) f (cols.map fun j => ⟨yRect j, yPiece L X (jp j) (jb j)⟩)) = YB L X := by
  refine read_pieces v f _ _ (fun y => ?_) fun p hp => ?_
  · have key : ∀ j : Fin 4, j ∈ cols := by decide
    have h0 : (y 0).val < 6 := (y 0).isLt
    have h1 : (y 1).val < 1 := (y 1).isLt
    have h2 : (y 2).val < 512 := (y 2).isLt
    refine ⟨_, List.mem_map_of_mem (key ⟨(y 2).val / 128, by omega⟩), ?_⟩
    rw [Rect.mem_set_unit]; intro a
    match a with
    | ⟨0, _⟩ => constructor; · show 0 ≤ (y 0).val; omega
                · show (y 0).val < 0 + 6; omega
    | ⟨1, _⟩ => constructor; · show 0 ≤ (y 1).val; omega
                · show (y 1).val < 0 + 1; omega
    | ⟨2, _⟩ => constructor; · show 128 * ((y 2).val / 128) ≤ (y 2).val; omega
                · show (y 2).val < 128 * ((y 2).val / 128) + 128; omega
  · obtain ⟨j, -, rfl⟩ := List.mem_map.mp hp
    exact fun x => YB_emb L X j x

/-! ## The codes of the activations, and the left operand -/

/-- The codes of the activations. -/
def XC (X : Vec F S6x1x2560 .bf16) : Vec F S6x1x2560 .fp8e4m3 := fun y =>
  xCodes3 (xBlk X ⟨(y 2).val / 128, Nat.div_lt_of_lt_mul (y 2).isLt⟩) (ix3 (y 0) (y 1) ⟨(y 2).val % 128, Nat.mod_lt _ (by decide)⟩)

theorem XC_emb (X : Vec F S6x1x2560 .bf16) (g : Fin 20) (x : S6x1x128.Idx) :
    xCodes3 (xBlk X g) x = XC X ((xRect g).emb x) := by
  have e2 : (((xRect g).emb x) 2).val = 128 * g.val + (x 2).val := by rw [Rect.emb_apply]; show _ + 1 * _ = _; rw [one_mul]; rfl
  have h2 : (x 2).val < 128 := (x 2).isLt
  have hg : (⟨(((xRect g).emb x) 2).val / 128, Nat.div_lt_of_lt_mul (((xRect g).emb x) 2).isLt⟩ : Fin 20) = g := by
    apply Fin.ext; simp only [e2]; omega
  unfold XC
  rw [hg]
  congr 1
  refine (eq_ix3 (n0 := 6) (n1 := 1) (n2 := 128) x).trans ?_
  congr 1
  · apply Fin.ext; rw [Rect.emb_apply]; show _ = 0 + 1 * _; omega
  · exact Subsingleton.elim _ _
  · apply Fin.ext; simp only [e2]; omega

/-- The twenty groups, last first. -/
abbrev senal : List (Fin 20) := [19, 18, 17, 16, 15, 14, 13, 12, 11, 10, 9, 8, 7, 6, 5, 4, 3, 2, 1, 0]

theorem mem_senal : ∀ g : Fin 20, g ∈ senal := by decide

theorem read_XC {κ : Kind} {sp : Space} (v : View sig κ sp S6x1x2560 .fp8e4m3) (f : v.ty.Contents (Elt F)) (X : Vec F S6x1x2560 .bf16) :
    v.read (Elt F) (v.writes (Elt F) f (senal.map fun g => ⟨xRect g, xCodes3 (xBlk X g)⟩)) = XC X := by
  refine read_pieces v f _ _ (fun y => ?_) fun p hp => ?_
  · have h0 : (y 0).val < 6 := (y 0).isLt
    have h1 : (y 1).val < 1 := (y 1).isLt
    have h2 : (y 2).val < 2560 := (y 2).isLt
    refine ⟨_, List.mem_map_of_mem (mem_senal ⟨(y 2).val / 128, by omega⟩), ?_⟩
    rw [Rect.mem_set_unit]; intro a
    match a with
    | ⟨0, _⟩ => constructor; · show 0 ≤ (y 0).val; omega
                · show (y 0).val < 0 + 6; omega
    | ⟨1, _⟩ => constructor; · show 0 ≤ (y 1).val; omega
                · show (y 1).val < 0 + 1; omega
    | ⟨2, _⟩ => constructor; · show 128 * ((y 2).val / 128) ≤ (y 2).val; omega
                · show (y 2).val < 128 * ((y 2).val / 128) + 128; omega
  · obtain ⟨g, -, rfl⟩ := List.mem_map.mp hp
    exact fun x => XC_emb X g x

theorem read_XS {κ : Kind} {sp : Space} (v : View sig κ sp S6x1x20 .f32) (f : v.ty.Contents (Elt F)) (X : Vec F S6x1x2560 .bf16) :
    v.read (Elt F) (v.writes (Elt F) f [⟨Rect.unit (s := S6x1x20) ![0, 0, 0] S6x1x20.size inb_S6x1x20_S6x1x20_0_0_0, XS X⟩]) = XS X := by
  refine read_pieces v f _ _ (fun y => ⟨_, List.mem_singleton_self _, ?_⟩) fun p hp x => ?_
  · have h0 : (y 0).val < 6 := (y 0).isLt
    have h1 : (y 1).val < 1 := (y 1).isLt
    have h2 : (y 2).val < 20 := (y 2).isLt
    rw [Rect.mem_set_unit]; intro a
    match a with
    | ⟨0, _⟩ => constructor; · show 0 ≤ (y 0).val; omega
                · show (y 0).val < 0 + 6; omega
    | ⟨1, _⟩ => constructor; · show 0 ≤ (y 1).val; omega
                · show (y 1).val < 0 + 1; omega
    | ⟨2, _⟩ => constructor; · show 0 ≤ (y 2).val; omega
                · show (y 2).val < 0 + 20; omega
  · obtain rfl := List.mem_singleton.mp hp
    refine congrArg (XS X) (funext fun a => Fin.ext ?_)
    rw [Rect.emb_apply]
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega

theorem sInb (g : Fin 20) : ∀ a, (![0, 128 * g.val] : Fin 2 → Nat) a + S16x128.size a ≤ S16x2560.size a := by
  intro a; have := g.isLt
  match a with
  | ⟨0, _⟩ => show 0 + 16 ≤ 16; omega
  | ⟨1, _⟩ => show 128 * g.val + 128 ≤ 2560; omega

/-- Group `g`'s rectangle of the left operand. -/
abbrev sRect (g : Fin 20) : Rect S16x2560 := Rect.unit (s := S16x2560) ![0, 128 * g.val] S16x128.size (sInb g)

/-- The left operand. -/
def LHS (X : Vec F S6x1x2560 .bf16) : Vec F S16x2560 .bf16 := fun y =>
  lhsPiece (xBlk X ⟨(y 1).val / 128, Nat.div_lt_of_lt_mul (y 1).isLt⟩) ⟨(y 1).val / 128, Nat.div_lt_of_lt_mul (y 1).isLt⟩
    (ix2 (y 0) ⟨(y 1).val % 128, Nat.mod_lt _ (by decide)⟩)

theorem LHS_emb (X : Vec F S6x1x2560 .bf16) (g : Fin 20) (x : S16x128.Idx) :
    lhsPiece (xBlk X g) g x = LHS X ((sRect g).emb x) := by
  have e1 : (((sRect g).emb x) 1).val = 128 * g.val + (x 1).val := by rw [Rect.emb_apply]; show _ + 1 * _ = _; rw [one_mul]; rfl
  have h1 : (x 1).val < 128 := (x 1).isLt
  have hg : (⟨(((sRect g).emb x) 1).val / 128, Nat.div_lt_of_lt_mul (((sRect g).emb x) 1).isLt⟩ : Fin 20) = g := by
    apply Fin.ext; simp only [e1]; omega
  unfold LHS
  rw [hg]
  congr 1
  refine (eq_ix2 (n0 := 16) (n1 := 128) x).trans ?_
  congr 1
  · apply Fin.ext; rw [Rect.emb_apply]; show _ = 0 + 1 * _; omega
  · apply Fin.ext; simp only [e1]; omega

/-- The left operand's pieces over the zeros it is cleared with. -/
abbrev lhsPieces (X : Vec F S6x1x2560 .bf16) : List (View.Piece (Elt F) S16x2560 .bf16) :=
  senal.map fun g => ⟨sRect g, lhsPiece (xBlk X g) g⟩

theorem read_LHS {κ : Kind} {sp : Space} (v : View sig κ sp S16x2560 .bf16) (f : v.ty.Contents (Elt F)) (X : Vec F S6x1x2560 .bf16) :
    v.read (Elt F) (v.writes (Elt F) f (lhsPieces X)) = LHS X := by
  refine read_pieces v f _ _ (fun y => ?_) fun p hp => ?_
  · have h0 : (y 0).val < 16 := (y 0).isLt
    have h1 : (y 1).val < 2560 := (y 1).isLt
    refine ⟨_, List.mem_map_of_mem (mem_senal ⟨(y 1).val / 128, by omega⟩), ?_⟩
    rw [Rect.mem_set_unit]; intro a
    match a with
    | ⟨0, _⟩ => constructor; · show 0 ≤ (y 0).val; omega
                · show (y 0).val < 0 + 16; omega
    | ⟨1, _⟩ => constructor; · show 128 * ((y 1).val / 128) ≤ (y 1).val; omega
                · show (y 1).val < 128 * ((y 1).val / 128) + 128; omega
  · obtain ⟨g, -, rfl⟩ := List.mem_map.mp hp
    exact fun x => LHS_emb X g x

/-- The left operand's pieces stored over the zeros. -/
theorem read_LHS_zero {κ : Kind} {sp : Space} (v : View sig κ sp S16x2560 .bf16) (f : v.ty.Contents (Elt F)) (X : Vec F S6x1x2560 .bf16) :
    v.read (Elt F) (v.writes (Elt F) f (lhsPieces X
      ++ [⟨Rect.unit (s := S16x2560) ![0, 0] S16x2560.size inb_S16x2560_S16x2560_0_0, k0_pay1 (F := F)⟩])) = LHS X :=
  (congrArg (v.read (Elt F)) (View.writes_append v f _ _)).trans
    (read_LHS v (v.writes (Elt F) f [⟨Rect.unit (s := S16x2560) ![0, 0] S16x2560.size inb_S16x2560_S16x2560_0_0, k0_pay1 (F := F)⟩]) X)

/-! ## The rows of scales -/

theorem off_eq : ∀ i : grid0.Coords, ∀ r : Fin 4, k0_off1 i (BitVec.ofNat 32 r.val) = ![4 * (i 0).val + r.val, 0] := by decide +kernel

/-- Point `i`'s row `r` of the scales. -/
abbrev rowRect (i : grid0.Coords) (r : Fin 4) : Rect S76x20 :=
  Rect.unit (s := S76x20) (k0_off1 i (BitVec.ofNat 32 r.val)) S1x20.size (k0_off1_inb i r)

/-- The scales after point `i`: its four rows, the other rows as they were. -/
def WSput (i : grid0.Coords) (X : Vec F S512x2560 .bf16) (Y : Vec F S76x20 .f32) : Vec F S76x20 .f32 := fun y =>
  if h : 4 * (i 0).val ≤ (y 0).val ∧ (y 0).val < 4 * (i 0).val + 4 then
    wsRow X ⟨(y 0).val - 4 * (i 0).val, by omega⟩ (ix2 0 (y 1))
  else Y y

theorem mem_rowRect (i : grid0.Coords) (r : Fin 4) (y : S76x20.Idx) :
    y ∈ (rowRect i r).set ↔ (y 0).val = 4 * (i 0).val + r.val := by
  have h1 : (y 1).val < 20 := (y 1).isLt
  rw [Rect.mem_set_unit, off_eq]
  constructor
  · intro h
    have := h 0
    change 4 * (i 0).val + r.val ≤ (y 0).val ∧ (y 0).val < 4 * (i 0).val + r.val + 1 at this
    omega
  · intro h a
    match a with
    | ⟨0, _⟩ => show 4 * (i 0).val + r.val ≤ (y 0).val ∧ (y 0).val < 4 * (i 0).val + r.val + 1; omega
    | ⟨1, _⟩ => show 0 ≤ (y 1).val ∧ (y 1).val < 0 + 20; omega

theorem read_WSput {κ : Kind} {sp : Space} (v : View sig κ sp S76x20 .f32) (f : v.ty.Contents (Elt F)) (i : grid0.Coords)
    (X : Vec F S512x2560 .bf16) :
    v.read (Elt F) (v.writes (Elt F) f (cols.map fun r => ⟨rowRect i r, wsRow X r⟩)) = WSput i X (v.read (Elt F) f) := by
  have key : ∀ j : Fin 4, j ∈ cols := by decide
  funext y
  by_cases h : 4 * (i 0).val ≤ (y 0).val ∧ (y 0).val < 4 * (i 0).val + 4
  · have hc : ∃ p ∈ cols.map (fun r => (⟨rowRect i r, wsRow X r⟩ : View.Piece (Elt F) S76x20 .f32)), y ∈ p.1.set :=
      ⟨_, List.mem_map_of_mem (key ⟨(y 0).val - 4 * (i 0).val, by omega⟩), (mem_rowRect i _ y).mpr (by simp only; omega)⟩
    rw [View.read_writes_apply_eq_canon v f y _ hc]
    refine View.canon_apply_of_pieces (WSput i X (v.read (Elt F) f)) _ (fun p hp => ?_) y hc
    obtain ⟨r, -, rfl⟩ := List.mem_map.mp hp
    intro x
    have e0 : (((rowRect i r).emb x) 0).val = 4 * (i 0).val + r.val := (mem_rowRect i r _).mp ((rowRect i r).idx_mem x)
    have e1 : (((rowRect i r).emb x) 1).val = (x 1).val := by
      rw [Rect.emb_apply]; show (k0_off1 i (BitVec.ofNat 32 r.val)) 1 + 1 * _ = _; rw [off_eq, one_mul]; exact Nat.zero_add _
    have hr := r.isLt
    unfold WSput
    rw [dif_pos (by rw [e0]; omega)]
    have hi : (⟨(((rowRect i r).emb x) 0).val - 4 * (i 0).val, by omega⟩ : Fin 4) = r := Fin.ext (by simp only [e0]; omega)
    rw [hi]
    show wsRow X r x = _
    congr 1
    refine (eq_ix2 (n0 := 1) (n1 := 20) x).trans ?_
    congr 1
    · exact Subsingleton.elim _ _
    · exact Fin.ext e1.symm
  · rw [View.read_writes_apply_of_forall_not_mem]
    · unfold WSput; rw [dif_neg h]
    · intro p hp hy
      obtain ⟨r, -, rfl⟩ := List.mem_map.mp hp
      have := (mem_rowRect i r y).mp hy
      have := r.isLt
      omega

end Cert.KernelIdeal.Block

end
-- ==== Proof.RunA.lean ====
/- The body's run at the first grid point. -/
module

public import proofs.«01_k».proof.Proof.Runs
public import proofs.«01_k».proof.Proof.Store
public import Idealize.ShloMosaic.Lib.Ring
public import Idealize.ShloMosaic.Lib.Tactic
public import Idealize.ShloMosaic.Lib.WordCmp

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 8000000 in
/-- The body at the first point: the activations are quantised and the left operand is built, then as at the others. -/
theorem kernelRun0_A (c : Dev nD) (i : grid0.Coords) (arg1 : Memref sig .tc .vmem S6x1x2560 .bf16) (harg1 : arg1.IsWhole) (arg2 : Memref sig .tc .vmem S512x2560 .bf16) (harg2 : arg2.IsWhole) (arg3 : Memref sig .tc .vmem S6x1x512 .bf16) (harg3 : arg3.IsWhole) (arg4 : Memref sig .tc .vmem S6x1x2560 .fp8e4m3) (harg4 : arg4.IsWhole) (arg5 : Memref sig .tc .vmem S6x1x20 .f32) (harg5 : arg5.IsWhole) (arg6 : Memref sig .tc .vmem S512x2560 .fp8e4m3) (harg6 : arg6.IsWhole) (arg7 : Memref sig .tc .vmem S76x20 .f32) (harg7 : arg7.IsWhole) (arg8 : Memref sig .tc .vmem S16x2560 .bf16) (harg8 : arg8.IsWhole) (hc0 : cond0_0 i)
    (x0 : Vec F S6x1x2560 .bf16) (x1 : Vec F S512x2560 .bf16) (d7 : Vec F S76x20 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare d7 ∗ (∃ d, owns (c : Thread nD τ) arg8 fullShare d)
            ∗ (iprop(owns (c : Thread nD τ) arg1 fullShare x0 ∗ owns (c : Thread nD τ) arg2 fullShare x1 ∗ owns (c : Thread nD τ) arg3 fullShare (YB (fun k => View.ld (LHS x0) (lRect k)) x1) ∗ owns (c : Thread nD τ) arg4 fullShare (XC x0) ∗ owns (c : Thread nD τ) arg5 fullShare (XS x0) ∗ owns (c : Thread nD τ) arg6 fullShare (WC x1) ∗ owns (c : Thread nD τ) arg7 fullShare (WSput i x1 d7) ∗ owns (c : Thread nD τ) arg8 fullShare (LHS x0)) -∗ K ⟨⟩))
          ⊢ wp frame (wpE (defs₀ (F := F)) Variants.none c none) E (cc0_fp8_block_linear i arg1 harg1 arg2 harg2 arg3 harg3 arg4 harg4 arg5 harg5 arg6 harg6 arg7 harg7 arg8 harg8) K := by
    intro E K
    simp only [cc0_fp8_block_linear_eq_skeleton]; unfold cc0_fp8_block_linear_skel
    simp only [k0_part144_eq_skeleton, k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part145_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5', %f5, -, H5⟩, ⟨%f6, %hf6, H6⟩, ⟨%ds0, %fs0, -, HS0⟩, Hk⟩
    subst hf0 hf1 hf6
    sl_exec (disch := first | sl_exact hc0)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro
      refine (read_YB arg3.view f2 (fun k => View.ld (arg8.view.read (Elt F) (arg8.view.writes (Elt F) arg8.view.junk (kernelRun0_A.sl.HS0_21 c arg1 f0))) (lRect k)) (arg2.view.read (Elt F) f1)).trans ?_
      rw [show arg8.view.read (Elt F) (arg8.view.writes (Elt F) arg8.view.junk (kernelRun0_A.sl.HS0_21 c arg1 f0)) = LHS (arg1.view.read (Elt F) f0) from
        read_LHS_zero arg8.view arg8.view.junk (arg1.view.read (Elt F) f0)]
    isplitl [H3]
    · iexists _; isplitr; swap; · iexact H3
      ipureintro; exact read_XC arg4.view f3 (arg1.view.read (Elt F) f0)
    isplitl [H4]
    · iexists _; isplitr; swap; · iexact H4
      ipureintro; exact read_XS arg5.view f4 (arg1.view.read (Elt F) f0)
    isplitl [H5]
    · iexists _; isplitr; swap; · iexact H5
      ipureintro; exact read_WC arg6.view f5 (arg2.view.read (Elt F) f1)
    isplitl [H6]
    · iexists _; isplitr; swap; · iexact H6
      ipureintro; exact read_WSput arg7.view f6 i (arg2.view.read (Elt F) f1)
    · iexists _; isplitr; swap; · iexact HS0
      ipureintro; exact read_LHS_zero arg8.view fs0 (arg1.view.read (Elt F) f0)

end Cert.KernelIdeal.Block

end
-- ==== Proof.RunB.lean ====
/- The body's run at a grid point that is not the first. -/
module

public import proofs.«01_k».proof.Proof.Runs
public import proofs.«01_k».proof.Proof.Store
public import Idealize.ShloMosaic.Lib.Ring
public import Idealize.ShloMosaic.Lib.Tactic
public import Idealize.ShloMosaic.Lib.WordCmp

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 8000000 in
/-- The body at a point that is not the first: the column block of the result from the left operand held in scratch, the
    weights' codes, this point's rows of the scales; the activations' codes and scales are kept. -/
theorem kernelRun0_B (c : Dev nD) (i : grid0.Coords) (arg1 : Memref sig .tc .vmem S6x1x2560 .bf16) (harg1 : arg1.IsWhole) (arg2 : Memref sig .tc .vmem S512x2560 .bf16) (harg2 : arg2.IsWhole) (arg3 : Memref sig .tc .vmem S6x1x512 .bf16) (harg3 : arg3.IsWhole) (arg4 : Memref sig .tc .vmem S6x1x2560 .fp8e4m3) (harg4 : arg4.IsWhole) (arg5 : Memref sig .tc .vmem S6x1x20 .f32) (harg5 : arg5.IsWhole) (arg6 : Memref sig .tc .vmem S512x2560 .fp8e4m3) (harg6 : arg6.IsWhole) (arg7 : Memref sig .tc .vmem S76x20 .f32) (harg7 : arg7.IsWhole) (arg8 : Memref sig .tc .vmem S16x2560 .bf16) (harg8 : arg8.IsWhole) (hc0 : ¬cond0_0 i)
    (x0 : Vec F S6x1x2560 .bf16) (x1 : Vec F S512x2560 .bf16) (d4 : Vec F S6x1x2560 .fp8e4m3) (d5 : Vec F S6x1x20 .f32) (d7 : Vec F S76x20 .f32) (d8 : Vec F S16x2560 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare d4 ∗ owns (c : Thread nD τ) arg5 fullShare d5 ∗ (∃ d, owns (c : Thread nD τ) arg6 fullShare d) ∗ owns (c : Thread nD τ) arg7 fullShare d7 ∗ owns (c : Thread nD τ) arg8 fullShare d8
            ∗ (iprop(owns (c : Thread nD τ) arg1 fullShare x0 ∗ owns (c : Thread nD τ) arg2 fullShare x1 ∗ owns (c : Thread nD τ) arg3 fullShare (YB (fun k => View.ld d8 (lRect k)) x1) ∗ owns (c : Thread nD τ) arg4 fullShare d4 ∗ owns (c : Thread nD τ) arg5 fullShare d5 ∗ owns (c : Thread nD τ) arg6 fullShare (WC x1) ∗ owns (c : Thread nD τ) arg7 fullShare (WSput i x1 d7) ∗ owns (c : Thread nD τ) arg8 fullShare d8) -∗ K ⟨⟩))
          ⊢ wp frame (wpE (defs₀ (F := F)) Variants.none c none) E (cc0_fp8_block_linear i arg1 harg1 arg2 harg2 arg3 harg3 arg4 harg4 arg5 harg5 arg6 harg6 arg7 harg7 arg8 harg8) K := by
    intro E K
    simp only [cc0_fp8_block_linear_eq_skeleton]; unfold cc0_fp8_block_linear_skel
    simp only [k0_part144_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part145_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%d5', %f5, -, H5⟩, ⟨%f6, %hf6, H6⟩, ⟨%fs0, %hs0, HS0⟩, Hk⟩
    subst hf0 hf1 hf3 hf4 hf6 hs0
    sl_exec (disch := first | sl_exact hc0)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; exact read_YB arg3.view f2 (fun k => View.ld (arg8.view.read (Elt F) fs0) (lRect k)) (arg2.view.read (Elt F) f1)
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; exact read_WC arg6.view f5 (arg2.view.read (Elt F) f1)
    isplitl [H6]
    · iexists _; isplitr; swap; · iexact H6
      ipureintro; exact read_WSput arg7.view f6 i (arg2.view.read (Elt F) f1)
    · iexists _; isplitr; swap; · iexact HS0
      ipureintro; rfl

end Cert.KernelIdeal.Block

end
-- ==== Proof.FrameIdeal.lean ====
/- The frame of the pipeline over the kernel body: what every grid point leaves in each staging buffer, the relation
   the weight scale window is in from point to point, and the run. -/
module

public import proofs.«01_k».proof.Proof.RunA
public import proofs.«01_k».proof.Proof.RunB

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The first grid point. -/
def t0 : Fin cfg0.N := ⟨0, Nat.lt_of_lt_of_eq (by decide : 0 < 19) N_0.symm⟩

/-- The activations as the first point finds them. -/
abbrev xin (c : Dev nD) : Vec F S6x1x2560 .bf16 := iblk m c 0 t0
/-- The weight rows of a point. -/
abbrev win (c : Dev nD) (t : Fin cfg0.N) : Vec F S512x2560 .bf16 := iblk m c 1 t

/-- What a point leaves in the window of results. -/
def yOut (c : Dev nD) (t : Fin cfg0.N) : Vec F S6x1x512 .bf16 := YB (fun k => View.ld (LHS (xin m c)) (lRect k)) (win m c t)

/-- The invariant between points: after the first one the scratch buffer holds the dequantised activations. -/
def inv (c : Dev nD) (n : ℕ) : sProp 𝕄 :=
  if n = 0 then Pipeline.ΦA spec0 c
  else iprop(owns (c : Thread nD τ) scM0_0 fullShare (LHS (xin m c)) ∗ (∃ r, prngReg c r))

/-- The proof data of the pipeline on core `c`; the windows written back once are left unnamed here. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => yOut m c t
    | ⟨3, h⟩ => Pipeline.Dat.unnamed (cfg := cfg0) ⟨3, h⟩ t
    | ⟨4, h⟩ => Pipeline.Dat.unnamed (cfg := cfg0) ⟨4, h⟩ t
    | ⟨5, _⟩ => WC (win m c t)
    | ⟨6, h⟩ => Pipeline.Dat.unnamed (cfg := cfg0) ⟨6, h⟩ t
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = yOut m c t := by dsimp only [dats]
theorem after0_5 (c : Dev nD) (t : Fin cfg0.N) : (dats m 0 c).after 5 t = WC (win m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The relations of the windows written back once: the activations' codes and scales, and the weight scales, of which a
    point overwrites its four rows. -/
def ovr (c : Dev nD) : (w : Fin cfg0.W) → Option (Fin cfg0.N → (Y X : (cfg0.win w).block.Idx → Elt F (cfg0.win w).elt) → Prop)
  | ⟨3, _⟩ => some fun _ _ X => X = XC (xin m c)
  | ⟨4, _⟩ => some fun _ _ X => X = XS (xin m c)
  | ⟨6, _⟩ => some fun t Y X => X = WSput (grid0.coords t) (win m c t) Y
  | _ => none

/-- The proof data with those relations. -/
def rdat (c : Dev nD) : Pipeline.RDat τ (Elt F) Unit ℕ (UR sig nD τ) ℕ cfg0 c := (dats m 0 c).toR.override (ovr m c)

theorem finds_of (c : Dev nD) (w : Fin cfg0.W) (h : ovr m c w = none) (t : Fin cfg0.N) (X) (hF : (rdat m c).Finds w t X) :
    ∃ d, X = (dats m 0 c).before w t d :=
  (dats m 0 c).toR_finds w t X (((dats m 0 c).toR.override_finds h t X).mp hF)

theorem rafter0_0 (c : Dev nD) (t : Fin cfg0.N) (Y X) (h : X = iblk m c 0 t) : (rdat m c).after 0 t Y X := by
  have e := (dats m 0 c).toR.override_after_of_eq_none (ovr := ovr m c) (w := 0) rfl
  show ((dats m 0 c).toR.override (ovr m c)).after 0 t Y X
  rw [e]; exact h
theorem rafter0_1 (c : Dev nD) (t : Fin cfg0.N) (Y X) (h : X = iblk m c 1 t) : (rdat m c).after 1 t Y X := by
  have e := (dats m 0 c).toR.override_after_of_eq_none (ovr := ovr m c) (w := 1) rfl
  show ((dats m 0 c).toR.override (ovr m c)).after 1 t Y X
  rw [e]; exact h
theorem rafter0_2 (c : Dev nD) (t : Fin cfg0.N) (Y X) (h : X = yOut m c t) : (rdat m c).after 2 t Y X := by
  have e := (dats m 0 c).toR.override_after_of_eq_none (ovr := ovr m c) (w := 2) rfl
  show ((dats m 0 c).toR.override (ovr m c)).after 2 t Y X
  rw [e]; exact h
theorem rafter0_3 (c : Dev nD) (t : Fin cfg0.N) (Y X) : (rdat m c).after 3 t Y X ↔ X = XC (xin m c) := by
  have e := (dats m 0 c).toR.override_after_of_eq_some (ovr := ovr m c) (w := 3) rfl
  show ((dats m 0 c).toR.override (ovr m c)).after 3 t Y X ↔ _
  rw [e]
theorem rafter0_4 (c : Dev nD) (t : Fin cfg0.N) (Y X) : (rdat m c).after 4 t Y X ↔ X = XS (xin m c) := by
  have e := (dats m 0 c).toR.override_after_of_eq_some (ovr := ovr m c) (w := 4) rfl
  show ((dats m 0 c).toR.override (ovr m c)).after 4 t Y X ↔ _
  rw [e]
theorem rafter0_5 (c : Dev nD) (t : Fin cfg0.N) (Y X) (h : X = WC (win m c t)) : (rdat m c).after 5 t Y X := by
  have e := (dats m 0 c).toR.override_after_of_eq_none (ovr := ovr m c) (w := 5) rfl
  show ((dats m 0 c).toR.override (ovr m c)).after 5 t Y X
  rw [e]; exact h
theorem rafter0_6 (c : Dev nD) (t : Fin cfg0.N) (Y X) : (rdat m c).after 6 t Y X ↔ X = WSput (grid0.coords t) (win m c t) Y := by
  have e := (dats m 0 c).toR.override_after_of_eq_some (ovr := ovr m c) (w := 6) rfl
  show ((dats m 0 c).toR.override (ovr m c)).after 6 t Y X ↔ _
  rw [e]

/-- Past the first point the windows written once hold what the first point left. -/
theorem finds0_3 (c : Dev nD) (t : Fin cfg0.N) (ht : t.val ≠ 0) (X) (h : (rdat m c).Finds 3 t X) : X = XC (xin m c) := by
  have hN : t.val < 19 := lt_of_lt_of_eq t.isLt (show cfg0.N = 19 from N_0)
  rcases ((rdat m c).finds_of_pos rfl ht X).mp h with h | ⟨Y, -, h⟩
  · rw [flush0_3] at h; simp only at h; omega
  · exact (rafter0_3 m c _ _ _).mp h
theorem finds0_4 (c : Dev nD) (t : Fin cfg0.N) (ht : t.val ≠ 0) (X) (h : (rdat m c).Finds 4 t X) : X = XS (xin m c) := by
  have hN : t.val < 19 := lt_of_lt_of_eq t.isLt (show cfg0.N = 19 from N_0)
  rcases ((rdat m c).finds_of_pos rfl ht X).mp h with h | ⟨Y, -, h⟩
  · rw [flush0_4] at h; simp only at h; omega
  · exact (rafter0_4 m c _ _ _).mp h

/-! ## The body obligation, at a generic point -/

/-- What the body is called with at point `t`, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6))

/-- and what it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0_0 t) fullShare X)
    ∗ (∃ X, ⌜(rdat m c).after 1 t (Y 1) X⌝ ∗ owns (c : Thread nD τ) (ms0_1 t) fullShare X)
    ∗ (∃ X, ⌜(rdat m c).after 2 t (Y 2) X⌝ ∗ owns (c : Thread nD τ) (ms0_2 t) fullShare X)
    ∗ (∃ X, ⌜(rdat m c).after 3 t (Y 3) X⌝ ∗ owns (c : Thread nD τ) (ms0_3 t) fullShare X)
    ∗ (∃ X, ⌜(rdat m c).after 4 t (Y 4) X⌝ ∗ owns (c : Thread nD τ) (ms0_4 t) fullShare X)
    ∗ (∃ X, ⌜(rdat m c).after 5 t (Y 5) X⌝ ∗ owns (c : Thread nD τ) (ms0_5 t) fullShare X)
    ∗ (∃ X, ⌜(rdat m c).after 6 t (Y 6) X⌝ ∗ owns (c : Thread nD τ) (ms0_6 t) fullShare X))

theorem phi_eq (c : Dev nD) (t : Fin (cfg0.N + 1)) : (rdat m c).Φ t = inv m c t.val := rfl

set_option maxHeartbeats 1600000 in
/-- The body at any point, by the two runs. -/
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  obtain ⟨d0, e0⟩ := finds_of m c 0 rfl t _ (hY 0)
  obtain ⟨d1, e1⟩ := finds_of m c 1 rfl t _ (hY 1)
  rw [before0_0] at e0
  rw [before0_1] at e1
  unfold bodyPre bodyPost bodyAt0
  rw [show (rdat m c).owesAt () t.succ = (rdat m c).owesAt () t.castSucc from rfl, phi_eq, phi_eq, e0, e1]
  rw [show inv m c t.succ.val = iprop(owns (c : Thread nD τ) scM0_0 fullShare (LHS (xin m c)) ∗ (∃ r, prngReg c r)) from
    if_neg (by rw [Fin.val_succ]; omega)]
  have hN : t.val < 19 := lt_of_lt_of_eq t.isLt (show cfg0.N = 19 from N_0)
  by_cases h0 : t.val % 19 = 0
  · have hz : t.val = 0 := by omega
    have ht : t = t0 := Fin.ext hz
    rw [show inv m c t.castSucc.val = Pipeline.ΦA spec0 c from if_pos (by rw [Fin.val_castSucc]; exact hz), PhiA0_eq]
    iintro ⟨⟨HS0, Hg⟩, Ho, H0, H1, H2, H3, H4, H5, H6⟩
    iapply ((kernelRun0_A c (grid0.coords t) _ _ _ _ _ _ _ _ _ _ _ _ _ _ _ _ ((hcond0_0 t).mpr h0) (iblk m c 0 t) (iblk m c 1 t) (Y 6)) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexact H6
    isplitl [HS0]; · iexact HS0
    iintro ⟨H0, H1, H2, H3, H4, H5, H6, HS0⟩
    isplitl [HS0 Hg]
    · isplitl [HS0]
      · rw [ht]; iexact HS0
      iexact Hg
    isplitl [Ho]; · iexact Ho
    isplitl [H0]; · iexists _; isplitr; swap; (· iexact H0); ipureintro; exact rafter0_0 m c t _ _ rfl
    isplitl [H1]; · iexists _; isplitr; swap; (· iexact H1); ipureintro; exact rafter0_1 m c t _ _ rfl
    isplitl [H2]; · iexists _; isplitr; swap; (· iexact H2); ipureintro; exact rafter0_2 m c t _ _ (by rw [ht]; rfl)
    isplitl [H3]; · iexists _; isplitr; swap; (· iexact H3); ipureintro; exact (rafter0_3 m c t _ _).mpr (by rw [ht])
    isplitl [H4]; · iexists _; isplitr; swap; (· iexact H4); ipureintro; exact (rafter0_4 m c t _ _).mpr (by rw [ht])
    isplitl [H5]; · iexists _; isplitr; swap; (· iexact H5); ipureintro; exact rafter0_5 m c t _ _ rfl
    iexists _; isplitr; swap; (· iexact H6); ipureintro; exact (rafter0_6 m c t _ _).mpr rfl
  · have hz : t.val ≠ 0 := fun h => h0 (by rw [h])
    rw [finds0_3 m c t hz _ (hY 3), finds0_4 m c t hz _ (hY 4)]
    rw [show inv m c t.castSucc.val = iprop(owns (c : Thread nD τ) scM0_0 fullShare (LHS (xin m c)) ∗ (∃ r, prngReg c r)) from
      if_neg (by rw [Fin.val_castSucc]; exact hz)]
    iintro ⟨⟨HS0, Hg⟩, Ho, H0, H1, H2, H3, H4, H5, H6⟩
    iapply ((kernelRun0_B c (grid0.coords t) _ _ _ _ _ _ _ _ _ _ _ _ _ _ _ _ (fun h => h0 ((hcond0_0 t).mp h)) (iblk m c 0 t) (iblk m c 1 t)
      (XC (xin m c)) (XS (xin m c)) (Y 6) (LHS (xin m c))) Set.univ _)
    isplitl [H0]; · iexact H0
    isplitl [H1]; · iexact H1
    isplitl [H2]; · iexists _; iexact H2
    isplitl [H3]; · iexact H3
    isplitl [H4]; · iexact H4
    isplitl [H5]; · iexists _; iexact H5
    isplitl [H6]; · iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexists _; isplitr; swap; (· iexact H0); ipureintro; exact rafter0_0 m c t _ _ rfl
    isplitl [H1]; · iexists _; isplitr; swap; (· iexact H1); ipureintro; exact rafter0_1 m c t _ _ rfl
    isplitl [H2]; · iexists _; isplitr; swap; (· iexact H2); ipureintro; exact rafter0_2 m c t _ _ rfl
    isplitl [H3]; · iexists _; isplitr; swap; (· iexact H3); ipureintro; exact (rafter0_3 m c t _ _).mpr rfl
    isplitl [H4]; · iexists _; isplitr; swap; (· iexact H4); ipureintro; exact (rafter0_4 m c t _ _).mpr rfl
    isplitl [H5]; · iexists _; isplitr; swap; (· iexact H5); ipureintro; exact rafter0_5 m c t _ _ rfl
    iexists _; isplitr; swap; (· iexact H6); ipureintro; exact (rafter0_6 m c t _ _).mpr rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdat m c).BodyObligation (defs₀ (F := F)) Variants.none () Set.univ := fun t Y hY => by
  rw [bigSep_W0, bigSep_W0, defs₀_row]
  exact triple_restated (sound_body m c t Y hY) rfl .rfl fun _ => .rfl

/-! ## The run and the frame -/

theorem inv_first (c : Dev nD) : (Pipeline.ΦA spec0 c : sProp 𝕄) ⊢ inv m c 0 := .rfl

theorem inv_last (c : Dev nD) (n : ℕ) (hn : n ≠ 0) : inv m c n ⊢ (Pipeline.ΦA spec0 c : sProp 𝕄) := by
  rw [show inv m c n = iprop(owns (c : Thread nD τ) scM0_0 fullShare (LHS (xin m c)) ∗ (∃ r, prngReg c r)) from if_neg hn, PhiA0_eq]
  iintro ⟨HS0, Hg⟩
  isplitl [HS0]
  · iexists _; iexact HS0
  iexact Hg

set_option backward.isDefEq.respectTransparency.types false in
/-- Every weakly fair execution of the program on the cores ends with the arrays as the proof data says, and every semaphore counter at zero. -/
theorem run_main_quiescent : θ_run defs (onTc (τ := τ) (main (F := F))) (s₀ m ρ)
    (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => body_obligation m c) (hshare := fun c => (dats m 0 c).share_full fun _ => rfl)
    (howed := fun _ _ => rfl) (V := V m) (hmain := hmain m Variants.none) (hA := A_eq m)
    (hin := fun c => inv_first m c) (hout := fun c => inv_last m c (Fin.last cfg0.N).val (show grid0.N ≠ 0 by rw [N_0]; decide))

/-- What a final state holds in the argument arrays: what they held at the start. -/
theorem args_of (r : PUnit × MemSt nD τ sig (Elt F)) (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1) :=
  ⟨(Pipeline.RDat.FramePost.arr_in h c 0 rfl).trans ((A_eq m c 0).trans (V_main_arg0 m c)),
    (Pipeline.RDat.FramePost.arr_in h c 1 rfl).trans ((A_eq m c 1).trans (V_main_arg1 m c))⟩

/-- The frame: the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨args_of m r h.1, h.2⟩) (run_main_quiescent m ρ)

end Cert.KernelIdeal.Block

end
-- ==== Proof.Scalar.lean ====
/- The scale of one block as arithmetic on extended reals: the kernel counts the powers of two at most the threshold and
   shifts words, the reference takes the least power of two above the threshold; where the threshold is zero or in
   range they agree, and the kernel's inverse is the inverse. -/
module

public import proofs.«01_k».proof.Proof.Vocab
public import Idealize.ShloMosaic.Lib.Pointwise
public import Idealize.ShloMosaic.Lib.IndicatorCount

@[expose] public section

noncomputable section

namespace Cert.KernelIdeal.Block

open Idealize.ShloMosaic

/-- The factor from a largest absolute value to a threshold. -/
def fac : EReal := Ideal.ofBits .f32 991054117#32

/-- The `k`-th power the kernel compares with. -/
def pw (k : Fin 255) : EReal := Ideal.ofBits .f32 (IntOp.shli ArithUnit.vector (IntOp.addi (BitVec.ofNat 32 k.val) 1#32) 23#32)

/-- The kernel's count. -/
def kN (t : EReal) : BitVec 32 :=
  Finset.univ.fold IntOp.addi 0#32 fun k : Fin 255 => BitVec.setWidth 32 (BitVec.ofBool (decide (pw k ≤ t)))

/-- Its exponent. -/
def kE (n : BitVec 32) : BitVec 32 :=
  Scalar.select (IntOp.ori (IntOp.cmpi CmpIPredicate.eq n 0#32) (IntOp.cmpi CmpIPredicate.eq n 255#32)) 0#32 (IntOp.subi n 126#32)

/-- Its scale, and the scale's inverse. -/
def kS (t : EReal) : EReal := Ideal.ofBits .f32 (IntOp.shli ArithUnit.vector (IntOp.addi (kE (kN t)) 127#32) 23#32)
def kI (t : EReal) : EReal := Ideal.ofBits .f32 (IntOp.shli ArithUnit.vector (IntOp.subi 127#32 (kE (kN t))) 23#32)

/-- The `k`-th power the reference compares with. -/
def rp (k : Fin 253) : EReal := FloatOps.exp2 (F := Ideal) (φ := .f32) (FloatOps.sitofp .f32 (IntOp.subi (BitVec.ofNat 32 k.val) 125#32))

/-- The reference's scale of a block with largest absolute value `a`. -/
def rS (a : EReal) : EReal :=
  if a = 0 then 1 else
    Finset.univ.fold min (Ideal.ofBits .f32 2139095040#32) fun k : Fin 253 =>
      if a * fac < rp k then rp k else Ideal.ofBits .f32 2139095040#32

/-- The thresholds the kernel's words reach. -/
def InRange (t : EReal) : Prop := t = 0 ∨ (((2 : ℝ) ^ (-126 : ℤ) : ℝ) : EReal) ≤ t ∧ t < (((2 : ℝ) ^ (126 : ℤ) : ℝ) : EReal)

theorem word_ex : ∀ e : Fin 256, ((IntOp.shli ArithUnit.vector (BitVec.ofNat 32 e.val) 23#32).extractLsb' 31 1 == 1#1) = false
    ∧ ((IntOp.shli ArithUnit.vector (BitVec.ofNat 32 e.val) 23#32).extractLsb' 23 8).toNat = e.val
    ∧ ((IntOp.shli ArithUnit.vector (BitVec.ofNat 32 e.val) 23#32).extractLsb' 0 23).toNat = 0 := by decide +kernel

/-- A pattern with sign and fraction zero is that power of two. -/
theorem ieee_of (w : BitVec 32) (e : ℕ) (h1 : 1 ≤ e) (h2 : e ≤ 254) (hs : (w.extractLsb' 31 1 == 1#1) = false)
    (he : (w.extractLsb' 23 8).toNat = e) (hf : (w.extractLsb' 0 23).toNat = 0) :
    Ideal.ieee 8 23 w = (((2 : ℝ) ^ ((e : ℤ) - 127) : ℝ) : EReal) := by
  unfold Ideal.ieee
  simp only [hs, he, hf]
  rw [if_neg (by omega), if_neg (by omega)]
  congr 1
  have h23 : ((2 : ℝ) ^ 23 : ℝ) = (2 : ℝ) ^ (23 : ℤ) := by norm_cast
  simp only [Bool.false_eq_true, if_false, one_mul, Nat.add_zero, Nat.cast_pow, Nat.cast_ofNat]
  rw [h23, ← zpow_add₀ (by norm_num)]
  congr 1
  norm_num

/-- The word of an exponent is that power of two. -/
theorem ofBits_word (e : ℕ) (h1 : 1 ≤ e) (h2 : e ≤ 254) :
    Ideal.ofBits .f32 (IntOp.shli ArithUnit.vector (BitVec.ofNat 32 e) 23#32) = (((2 : ℝ) ^ ((e : ℤ) - 127) : ℝ) : EReal) :=
  have h := word_ex ⟨e, Nat.lt_of_le_of_lt h2 (by decide)⟩
  ieee_of _ e h1 h2 h.1 h.2.1 h.2.2

theorem inf_word : Ideal.ofBits .f32 2139095040#32 = ⊤ := by
  simp [Ideal.ofBits, Ideal.ieee]

/-- The word of the exponent 255 is infinity. -/
theorem ofBits_word_top : Ideal.ofBits .f32 (IntOp.shli ArithUnit.vector (BitVec.ofNat 32 255) 23#32) = ⊤ := by
  rw [show IntOp.shli ArithUnit.vector (BitVec.ofNat 32 255) 23#32 = 2139095040#32 by decide]
  exact inf_word

theorem addi_one (k : ℕ) : IntOp.addi (BitVec.ofNat 32 k) 1#32 = BitVec.ofNat 32 (k + 1) := by
  show BitVec.ofNat 32 k + BitVec.ofNat 32 1 = _
  rw [BitVec.ofNat_add]

theorem pw_eq (k : Fin 255) (h : k.val < 254) : pw k = (((2 : ℝ) ^ ((k.val : ℤ) - 126) : ℝ) : EReal) := by
  unfold pw
  rw [addi_one, ofBits_word _ (by omega) (by omega)]
  congr 2
  push_cast; ring

theorem pw_top (k : Fin 255) (h : ¬ k.val < 254) : pw k = ⊤ := by
  unfold pw
  rw [addi_one, show k.val + 1 = 255 by have := k.isLt; omega]
  exact ofBits_word_top

/-- The count is the number of powers at most the threshold. -/
theorem kN_card (t : EReal) (n : ℕ) (hn : n ≤ 255) (h : ∀ k : Fin 255, pw k ≤ t ↔ k.val < n) : kN t = BitVec.ofNat 32 n := by
  unfold kN
  rw [IndicatorCount.fold_addi_setWidth_eq_card]
  congr 1
  have : (Finset.univ.filter fun k : Fin 255 => k.val < n).card = n := by
    rw [Fin.card_filter_val_lt]; omega
  rw [← this]
  congr 1
  ext k
  by_cases hk : k.val < n <;> simp [h k, hk]

theorem kE_zero : kE (BitVec.ofNat 32 0) = 0#32 := by decide

theorem kE_word : ∀ n : Fin 255, n.val ≠ 0 → IntOp.addi (kE (BitVec.ofNat 32 n.val)) 127#32 = BitVec.ofNat 32 (n.val + 1)
    ∧ (n.val ≤ 253 → IntOp.subi 127#32 (kE (BitVec.ofNat 32 n.val)) = BitVec.ofNat 32 (253 - n.val)) := by decide +kernel

theorem rp_eq (k : Fin 253) : rp k = (((2 : ℝ) ^ ((k.val : ℤ) - 125) : ℝ) : EReal) := by
  have h : ∀ k : Fin 253, (IntOp.subi (BitVec.ofNat 32 k.val) 125#32).toInt = (k.val : ℤ) - 125 := by decide +kernel
  unfold rp
  show Ideal.exp2 (((IntOp.subi (BitVec.ofNat 32 k.val) 125#32).toInt : ℝ) : EReal) = _
  rw [h, Ideal.exp2_coe]
  congr 1
  exact Real.rpow_intCast 2 _

theorem two_zpow_le {a b : ℤ} : (((2 : ℝ) ^ a : ℝ) : EReal) ≤ (((2 : ℝ) ^ b : ℝ) : EReal) ↔ a ≤ b := by
  rw [EReal.coe_le_coe_iff]; exact zpow_le_zpow_iff_right₀ (by norm_num)

theorem two_zpow_lt {a b : ℤ} : (((2 : ℝ) ^ a : ℝ) : EReal) < (((2 : ℝ) ^ b : ℝ) : EReal) ↔ a < b := by
  rw [EReal.coe_lt_coe_iff]; exact zpow_lt_zpow_iff_right₀ (by norm_num)

/-- A threshold in range lies in one binade. -/
theorem binade (t : EReal) (h1 : (((2 : ℝ) ^ (-126 : ℤ) : ℝ) : EReal) ≤ t) (h2 : t < (((2 : ℝ) ^ (126 : ℤ) : ℝ) : EReal)) :
    ∃ n : ℕ, 1 ≤ n ∧ n ≤ 252 ∧ (((2 : ℝ) ^ ((n : ℤ) - 127) : ℝ) : EReal) ≤ t ∧ t < (((2 : ℝ) ^ ((n : ℤ) - 126) : ℝ) : EReal) := by
  have hb : t ≠ ⊥ := fun h => by rw [h] at h1; exact absurd h1 (not_le.mpr (EReal.bot_lt_coe _))
  have ht : t ≠ ⊤ := ne_top_of_lt h2
  lift t to ℝ using ⟨ht, hb⟩
  have hp : 0 < t := lt_of_lt_of_le (by positivity) (EReal.coe_le_coe_iff.mp h1)
  obtain ⟨e, he1, he2⟩ := exists_mem_Ico_zpow (x := t) (y := 2) hp (by norm_num)
  have a1 : (-126 : ℤ) < e + 1 := two_zpow_lt.mp (lt_of_le_of_lt h1 (EReal.coe_lt_coe_iff.mpr he2))
  have a2 : e < 126 := two_zpow_lt.mp (lt_of_le_of_lt (EReal.coe_le_coe_iff.mpr he1) h2)
  refine ⟨(e + 127).toNat, by omega, by omega, ?_, ?_⟩
  · rw [show (((e + 127).toNat : ℕ) : ℤ) - 127 = e by omega]; exact EReal.coe_le_coe_iff.mpr he1
  · rw [show (((e + 127).toNat : ℕ) : ℤ) - 126 = e + 1 by omega]; exact EReal.coe_lt_coe_iff.mpr he2

/-- The kernel's scale and inverse in a binade. -/
theorem kS_binade (t : EReal) (n : ℕ) (h1 : 1 ≤ n) (h2 : n ≤ 252) (ha : (((2 : ℝ) ^ ((n : ℤ) - 127) : ℝ) : EReal) ≤ t)
    (hb : t < (((2 : ℝ) ^ ((n : ℤ) - 126) : ℝ) : EReal)) :
    kS t = (((2 : ℝ) ^ ((n : ℤ) - 126) : ℝ) : EReal) ∧ kI t = (((2 : ℝ) ^ (126 - (n : ℤ)) : ℝ) : EReal) := by
  have hc : kN t = BitVec.ofNat 32 n := kN_card t n (by omega) fun k => by
    by_cases hk : k.val < 254
    · rw [pw_eq k hk]
      constructor
      · intro h; have := two_zpow_lt.mp (lt_of_le_of_lt h hb); omega
      · intro h; exact le_trans (two_zpow_le.mpr (by omega)) ha
    · rw [pw_top k hk]
      constructor
      · intro h; exact absurd (lt_of_le_of_lt h hb) not_top_lt
      · intro h; omega
  obtain ⟨w1, w2⟩ := kE_word ⟨n, by omega⟩ (by simp only; omega)
  simp only at w1 w2
  unfold kS kI
  rw [hc, w1, w2 (by omega), ofBits_word _ (by omega) (by omega), ofBits_word _ (by omega) (by omega)]
  constructor
  · congr 2; push_cast; ring
  · congr 2; omega

/-- The kernel's scale and inverse of a block of zeros. -/
theorem kS_zero : kS 0 = 1 ∧ kI 0 = 1 := by
  have hc : kN 0 = BitVec.ofNat 32 0 := kN_card 0 0 (by omega) fun k => by
    refine ⟨fun h => ?_, fun h => absurd h (Nat.not_lt_zero _)⟩
    by_cases hk : k.val < 254
    · rw [pw_eq k hk] at h
      exact absurd h (not_le.mpr (by rw [← EReal.coe_zero, EReal.coe_lt_coe_iff]; positivity))
    · rw [pw_top k hk] at h; exact absurd h (by simp)
  unfold kS kI
  rw [hc, kE_zero]
  constructor
  · rw [show IntOp.addi 0#32 127#32 = BitVec.ofNat 32 127 by decide, ofBits_word _ (by omega) (by omega)]; norm_num
  · rw [show IntOp.subi 127#32 0#32 = BitVec.ofNat 32 127 by decide, ofBits_word _ (by omega) (by omega)]; norm_num

/-- The reference's scale in a binade. -/
theorem rS_binade (a : EReal) (ha0 : a ≠ 0) (n : ℕ) (h1 : 1 ≤ n) (h2 : n ≤ 252) (ha : (((2 : ℝ) ^ ((n : ℤ) - 127) : ℝ) : EReal) ≤ a * fac)
    (hb : a * fac < (((2 : ℝ) ^ ((n : ℤ) - 126) : ℝ) : EReal)) :
    rS a = (((2 : ℝ) ^ ((n : ℤ) - 126) : ℝ) : EReal) := by
  unfold rS
  rw [if_neg ha0, inf_word]
  apply le_antisymm
  · rw [Finset.fold_min_le]
    refine .inr ⟨⟨n - 1, by omega⟩, Finset.mem_univ _, ?_⟩
    rw [rp_eq]
    have e : (((⟨n - 1, by omega⟩ : Fin 253).val : ℕ) : ℤ) - 125 = (n : ℤ) - 126 := by simp only; omega
    rw [e, if_pos hb]
  · rw [Finset.le_fold_min]
    refine ⟨le_top, fun k _ => ?_⟩
    rw [rp_eq]
    split
    · next h => have := two_zpow_lt.mp (lt_of_le_of_lt ha h); exact two_zpow_le.mpr (by omega)
    · exact le_top

theorem fac_pos : ∃ r : ℝ, 0 < r ∧ fac = (r : EReal) := by
  refine ⟨_, ?_, by unfold fac; simp [Ideal.ofBits, Ideal.ieee]; rfl⟩
  positivity

theorem mul_fac_eq_zero (a : EReal) : a * fac = 0 ↔ a = 0 := by
  obtain ⟨r, hr, e⟩ := fac_pos
  rw [e]
  constructor
  · intro h
    induction a with
    | bot => rw [EReal.bot_mul_coe_of_pos hr] at h; exact absurd h (by simp)
    | top => rw [EReal.top_mul_coe_of_pos hr] at h; exact absurd h (by simp)
    | coe a =>
      rw [← EReal.coe_mul, ← EReal.coe_zero, EReal.coe_eq_coe_iff] at h
      rcases mul_eq_zero.mp h with h | h
      · rw [h, EReal.coe_zero]
      · exact absurd h hr.ne'
  · rintro rfl; exact zero_mul _

/-- THE SCALE: in range, both sides' is one positive real, and both sides' inverse is its inverse. -/
theorem scale_eq (a : EReal) (h : InRange (a * fac)) :
    ∃ r : ℝ, 0 < r ∧ kS (a * fac) = (r : EReal) ∧ rS a = (r : EReal) ∧ kI (a * fac) = ((r⁻¹ : ℝ) : EReal) ∧ Ideal.div 1 (r : EReal) = ((r⁻¹ : ℝ) : EReal) := by
  have hdiv : ∀ r : ℝ, 0 < r → Ideal.div 1 (r : EReal) = ((r⁻¹ : ℝ) : EReal) := fun r h => by
    rw [Ideal.div_coe h.ne', one_mul, one_div]
  rcases h with h | ⟨h1, h2⟩
  · refine ⟨1, one_pos, ?_, ?_, ?_, hdiv 1 one_pos⟩
    · rw [h, kS_zero.1]; rfl
    · unfold rS; rw [if_pos ((mul_fac_eq_zero a).mp h)]; rfl
    · rw [h, kS_zero.2, inv_one]; rfl
  · obtain ⟨n, n1, n2, b1, b2⟩ := binade _ h1 h2
    have ha0 : a ≠ 0 := fun h0 => by
      rw [h0, zero_mul, ← EReal.coe_zero, EReal.coe_le_coe_iff] at h1
      exact absurd h1 (not_le.mpr (by positivity))
    obtain ⟨k1, k2⟩ := kS_binade _ n n1 n2 b1 b2
    refine ⟨_, by positivity, k1, rS_binade a ha0 n n1 n2 b1 b2, ?_, hdiv _ (by positivity)⟩
    rw [k2, ← zpow_neg]; congr 2; ring

end Cert.KernelIdeal.Block

end
-- ==== Proof.RefRead.lean ====
/- The reference's results read at an index, over extended reals. -/
module

public import proofs.«01_k».proof.Proof.Scalar
public import proofs.«01_k».proof.Proof.Gen.ReferenceIdeal.Value

@[expose] public section

noncomputable section

namespace Cert.KernelIdeal.Block

open Idealize.ShloMosaic
open Cert.ReferenceIdeal.Gen (k0_pay1 k0_pay2 k0_pay3 k0_pay4 k0_pay5 k0_pay6 k0_pay7 k0_pay8 k0_pay9 k0_pay10 k0_pay11 k0_pay12
  k0_pay13 k0_pay14 k0_pay15 k0_pay16 k0_pay17 k0_pay18)
open Cert.ReferenceIdeal.Value (G2 G3 G4 G5 G6)

/-- The largest absolute value of group `g` of row `b` of the activations. -/
def amaxX (x : Vec Ideal S6x1x2560 .bf16) (b : Fin 6) (g : Fin 20) : EReal :=
  Finset.univ.fold max (Ideal.ofBits .f32 4286578688#32) fun l : Fin 128 =>
    FloatOps.absf (F := Ideal) (φ := .f32) (x (ix3 b 0 ⟨g.val * 128 + l.val, by have := g.isLt; have := l.isLt; omega⟩))

/-- The largest absolute value of block `(i, g)` of the weights. -/
def amaxW (w : Vec Ideal S9728x2560 .bf16) (i : Fin 76) (g : Fin 20) : EReal :=
  Finset.univ.fold max (Ideal.ofBits .f32 4286578688#32) fun r : Fin 128 =>
    Finset.univ.fold max (Ideal.ofBits .f32 4286578688#32) fun l : Fin 128 =>
      FloatOps.absf (F := Ideal) (φ := .f32) (w (ix2 ⟨i.val * 128 + r.val, by have := i.isLt; have := r.isLt; omega⟩
        ⟨g.val * 128 + l.val, by have := g.isLt; have := l.isLt; omega⟩))

/-- A code: the value times the inverse scale, clipped to ±448. -/
def clip (v : EReal) : EReal := min (Ideal.ofBits .f32 1138753536#32) (max (Ideal.ofBits .f32 3286237184#32) v)

theorem r_xs (x : Vec Ideal S6x1x2560 .bf16) (b : Fin 6) (g : Fin 20) : k0_pay3 x (ix3 b 0 g) = rS (amaxX x b g) := by
  pointwise [k0_pay3, k0_pay2]
  rfl

theorem r_xc (x : Vec Ideal S6x1x2560 .bf16) (b : Fin 6) (g : Fin 20) (l : Fin 128) :
    k0_pay4 x (ix4 b 0 g l) = clip (x (ix3 b 0 ⟨g.val * 128 + l.val, by have := g.isLt; have := l.isLt; omega⟩) * Ideal.div 1 (rS (amaxX x b g))) := by
  pointwise [k0_pay4, k0_pay2, r_xs]
  rfl

theorem r_wa (w : Vec Ideal S9728x2560 .bf16) (i : Fin 76) (g : Fin 20) : k0_pay6 w (ix2 i g) = amaxW w i g := by
  pointwise [k0_pay6, k0_pay5]
  rfl

theorem r_ws (w : Vec Ideal S9728x2560 .bf16) (i : Fin 76) (g : Fin 20) : k0_pay9 (k0_pay6 w) (k0_pay7 w) k0_pay8 (ix2 i g) = rS (amaxW w i g) := by
  pointwise [k0_pay9, k0_pay7, k0_pay8, r_wa]
  rfl

theorem r_wc (w : Vec Ideal S9728x2560 .bf16) (i : Fin 76) (r : Fin 128) (g : Fin 20) (l : Fin 128) :
    k0_pay10 (k0_pay5 w) (k0_pay6 w) (k0_pay7 w) k0_pay8 (ix4 i r g l) =
      clip (w (ix2 ⟨i.val * 128 + r.val, by have := i.isLt; have := r.isLt; omega⟩
        ⟨g.val * 128 + l.val, by have := g.isLt; have := l.isLt; omega⟩) * Ideal.div 1 (rS (amaxW w i g))) := by
  pointwise [k0_pay10, k0_pay5, r_ws]
  rfl

/-- The block and the place in it of a column, and of a row of the weights. -/
abbrev dg (d : Fin 2560) : Fin 20 := ⟨d.val / 128, by have := d.isLt; omega⟩
abbrev dl (d : Fin 2560) : Fin 128 := ⟨d.val % 128, by omega⟩
abbrev ni (n : Fin 9728) : Fin 76 := ⟨n.val / 128, by have := n.isLt; omega⟩

/-- The code of an activation, and of a weight. -/
def cX (x : Vec Ideal S6x1x2560 .bf16) (b : Fin 6) (d : Fin 2560) : EReal :=
  clip (x (ix3 b 0 d) * Ideal.div 1 (rS (amaxX x b (dg d))))
def cW (w : Vec Ideal S9728x2560 .bf16) (n : Fin 9728) (d : Fin 2560) : EReal :=
  clip (w (ix2 n d) * Ideal.div 1 (rS (amaxW w (ni n) (dg d))))

theorem ld_x (x : Vec Ideal S6x1x2560 .bf16) : View.ld x Cert.ReferenceIdeal.Gen.r0_0 = x :=
  View.ld_unit_zero (by decide) _ x
theorem ld_w (w : Vec Ideal S9728x2560 .bf16) : View.ld w Cert.ReferenceIdeal.Gen.r0_1 = w :=
  View.ld_unit_zero (by decide) _ w

theorem r_xcd (x : Vec Ideal S6x1x2560 .bf16) (b : Fin 6) (d : Fin 2560) :
    k0_pay4 x (ix4 b 0 (dg d) (dl d)) = cX x b d := by
  rw [r_xc, cX]
  congr 4
  exact Fin.ext (by show d.val / 128 * 128 + d.val % 128 = d.val; omega)

theorem r_wcd (w : Vec Ideal S9728x2560 .bf16) (n : Fin 9728) (d : Fin 2560) :
    k0_pay10 (k0_pay5 w) (k0_pay6 w) (k0_pay7 w) k0_pay8 (ix4 (ni n) ⟨n.val % 128, by omega⟩ (dg d) (dl d)) = cW w n d := by
  rw [r_wc, cW]
  congr 4
  · exact Fin.ext (by show n.val / 128 * 128 + n.val % 128 = n.val; omega)
  · exact Fin.ext (by show d.val / 128 * 128 + d.val % 128 = d.val; omega)

theorem r_G3 (x : Vec Ideal S6x1x2560 .bf16) (w : Vec Ideal S9728x2560 .bf16) (b : Fin 6) (d : Fin 2560) :
    G3 x w (ix3 b 0 d) = cX x b d := by
  pointwise [G3, k0_pay12, k0_pay14]
  rw [ld_x]; exact r_xcd x b d

theorem r_G4 (x : Vec Ideal S6x1x2560 .bf16) (w : Vec Ideal S9728x2560 .bf16) (b : Fin 6) (g : Fin 20) :
    G4 x w (ix3 b 0 g) = rS (amaxX x b g) := by
  unfold G4 k0_pay13
  rw [ld_x]; exact r_xs x b g

theorem r_G5 (x : Vec Ideal S6x1x2560 .bf16) (w : Vec Ideal S9728x2560 .bf16) (n : Fin 9728) (d : Fin 2560) :
    G5 x w (ix2 n d) = cW w n d := by
  pointwise [G5, k0_pay1, k0_pay15, k0_pay16, k0_pay17, k0_pay18]
  rw [ld_w]; exact r_wcd w n d

theorem r_G6 (x : Vec Ideal S6x1x2560 .bf16) (w : Vec Ideal S9728x2560 .bf16) (i : Fin 76) (g : Fin 20) :
    G6 x w (ix2 i g) = rS (amaxW w i g) := by
  unfold G6 k0_pay16 k0_pay17 k0_pay18
  rw [ld_w]; exact r_ws w i g

theorem r_G2 (x : Vec Ideal S6x1x2560 .bf16) (w : Vec Ideal S9728x2560 .bf16) (b : Fin 6) (n : Fin 9728) :
    G2 x w (ix3 b 0 n) = ∑ d : Fin 2560, cX x b d * rS (amaxX x b (dg d)) * (cW w n d * rS (amaxW w (ni n) (dg d))) := by
  pointwise [G2, k0_pay11, k0_pay13, k0_pay14, k0_pay15, k0_pay16, k0_pay17, k0_pay18]
  rw [ld_x, ld_w]
  refine Finset.sum_congr rfl fun d _ => ?_
  exact congrArg₂ (· * ·) (congrArg₂ (· * ·) (r_xcd x b d) (r_xs x b (dg d))) (congrArg₂ (· * ·) (r_wcd w n d) (r_ws w (ni n) (dg d)))

end Cert.KernelIdeal.Block

end
-- ==== Proof.KernelRead.lean ====
/- The kernel's block values read at an index, over extended reals. -/
module

public import proofs.«01_k».proof.Proof.Store
public import proofs.«01_k».proof.Proof.RefRead

@[expose] public section

noncomputable section

namespace Cert.KernelIdeal.Block

open Idealize.ShloMosaic

/-! ## Scales and codes of one block -/

theorem k_pows (k : Fin 255) : pows (F := Ideal) (ix2 0 k) = pw k := by
  pointwise [pows]
  rfl

theorem k_wE (b : Vec Ideal S128x128 .bf16) : wE b (ix2 0 0) = kE (kN (wT b (ix2 0 0))) := by
  pointwise [wE, expOf, k_pows]
  rfl

theorem k_wS (b : Vec Ideal S128x128 .bf16) : wS b (ix2 0 0) = kS (wT b (ix2 0 0)) := by
  pointwise [wS, scaleOf, k_wE]
  rfl

theorem k_wC (b : Vec Ideal S128x128 .bf16) (r l : Fin 128) : wCodes b (ix2 r l) = clip (b (ix2 r l) * kI (wT b (ix2 0 0))) := by
  pointwise [wCodes, invOf, k_wE]
  rfl

theorem k_xE (b : Vec Ideal S6x1x128 .bf16) (r : Fin 6) : xE b (ix2 r 0) = kE (kN (xT b (ix2 r 0))) := by
  pointwise [xE, expOf, k_pows]
  rfl

theorem k_xS (b : Vec Ideal S6x1x128 .bf16) (r : Fin 6) : xS b (ix2 r 0) = kS (xT b (ix2 r 0)) := by
  pointwise [xS, scaleOf, k_xE]
  rfl

theorem k_xC (v : Vec Ideal S6x1x128 .bf16) (r : Fin 6) (l : Fin 128) :
    xCodes v (ix2 r l) = clip (v (ix3 r 0 l) * kI (xT v (ix2 r 0))) := by
  pointwise [xCodes, xF, invOf, k_xE]
  rfl

theorem k_xC3 (v : Vec Ideal S6x1x128 .bf16) (r : Fin 6) (l : Fin 128) : xCodes3 v (ix3 r 0 l) = xCodes v (ix2 r l) := by
  pointwise [xCodes3]

/-! ## Thresholds -/

theorem k_xT (x : Vec Ideal S6x1x2560 .bf16) (g : Fin 20) (b : Fin 6) : xT (xBlk x g) (ix2 b 0) = amaxX x b g * fac := by
  pointwise [xT, xF, xBlk]
  unfold amaxX fac
  simp only [Nat.mul_comm 128]

theorem neg_inf_word16 : Ideal.ofBits .bf16 65408#16 = ⊥ := by
  simp [Ideal.ofBits, Ideal.ieee]

theorem neg_inf_word : Ideal.ofBits .f32 4286578688#32 = ⊥ := by
  simp [Ideal.ofBits, Ideal.ieee]

theorem k_wT (w : Vec Ideal S9728x2560 .bf16) (b : Vec Ideal S128x128 .bf16) (i : Fin 76) (g : Fin 20)
    (hb : ∀ r l : Fin 128, b (ix2 r l) = w (ix2 ⟨i.val * 128 + r.val, by have := i.isLt; have := r.isLt; omega⟩
      ⟨g.val * 128 + l.val, by have := g.isLt; have := l.isLt; omega⟩)) : wT b (ix2 0 0) = amaxW w i g * fac := by
  pointwise [wT]
  unfold amaxW fac
  simp only [hb, neg_inf_word, neg_inf_word16]
  refine congrArg (· * _) ?_
  exact Finset.sup_comm _ _ _

theorem xBlk_at (x : Vec Ideal S6x1x2560 .bf16) (g : Fin 20) (b : Fin 6) (l : Fin 128) :
    xBlk x g (ix3 b 0 l) = x (ix3 b 0 ⟨g.val * 128 + l.val, by have := g.isLt; have := l.isLt; omega⟩) := by
  pointwise [xBlk]
  simp only [Nat.mul_comm 128]

theorem wBlk_at (X : Vec Ideal S512x2560 .bf16) (r : Fin 4) (g : Fin 20) (i l : Fin 128) :
    wBlk X r g (ix2 i l) = X (ix2 ⟨r.val * 128 + i.val, by have := r.isLt; have := i.isLt; omega⟩
      ⟨g.val * 128 + l.val, by have := g.isLt; have := l.isLt; omega⟩) := by
  pointwise [wBlk]
  simp only [Nat.mul_comm 128]

/-! ## The rows of scales -/

/-- A fold that sets one lane per step holds, at a lane that is set, what that lane is set to. -/
theorem foldl_sel {α : Type*} (L : List (Fin 20)) (f : α → Fin 20 → α) (rd : α → EReal) (h : Fin 20) (s : Fin 20 → EReal)
    (hf : ∀ a g, rd (f a g) = if h = g then s g else rd a) (a : α) :
    rd (L.foldl f a) = if h ∈ L then s h else rd a := by
  induction L generalizing a with
  | nil => simp
  | cons g L ih =>
    rw [List.foldl_cons, ih, hf]
    by_cases h1 : h ∈ L
    · simp [h1]
    · by_cases h2 : h = g
      · subst h2; simp
      · simp [h1, h2]

theorem lanes_all : ∀ h : Fin 20, h ∈ lanes := by decide
theorem cmp_lane : ∀ h g : Fin 20, IntOp.cmpi .eq (BitVec.ofNat 32 h.val) (BitVec.ofNat 32 g.val) = if h = g then 1#1 else 0#1 := by decide +kernel

theorem k_XS (x : Vec Ideal S6x1x2560 .bf16) (b : Fin 6) (h : Fin 20) : XS x (ix3 b 0 h) = kS (amaxX x b h * fac) := by
  have e : XS x (ix3 b 0 h) = (lanes.foldl (fun acc g => xsStep acc g (xS (xBlk x g)))
      (broadcast S6x20 (Scalar.ofBits .f32 0x00000000#32)) : FVec Ideal S6x20 .f32) (ix2 b h) := by
    unfold XS
    generalize (List.foldl _ _ _ : FVec Ideal S6x20 .f32) = z
    pointwise
  rw [e, foldl_sel lanes _ (fun a : FVec Ideal S6x20 .f32 => a (ix2 b h)) h (fun g => kS (amaxX x b g * fac)), if_pos (lanes_all h)]
  intro a g
  pointwise [xsStep]
  rw [cmp_lane, k_xS, k_xT]
  by_cases hg : h = g
  · rw [if_pos hg, if_pos hg]; rfl
  · rw [if_neg hg, if_neg hg]; rfl

theorem k_wsRow (X : Vec Ideal S512x2560 .bf16) (r : Fin 4) (h : Fin 20) : wsRow X r (ix2 0 h) = wS (wBlk X r h) (ix2 0 0) := by
  unfold wsRow
  rw [foldl_sel lanes _ (fun a : FVec Ideal S1x20 .f32 => a (ix2 0 h)) h (fun g => wS (wBlk X r g) (ix2 0 0)), if_pos (lanes_all h)]
  intro a g
  pointwise [wsStep]
  rw [cmp_lane]
  by_cases hg : h = g
  · rw [if_pos hg, if_pos hg]; rfl
  · rw [if_neg hg, if_neg hg]; rfl

/-! ## The left operand -/

theorem k_xDeq (v : Vec Ideal S6x1x128 .bf16) (b : Fin 6) (l : Fin 128) :
    xDeq v (ix2 ⟨b.val, by have := b.isLt; omega⟩ l) = xCodes v (ix2 b l) * xS v (ix2 b 0) := by
  pointwise [xDeq]

theorem k_lhs_even (v : Vec Ideal S6x1x128 .bf16) (g : Fin 20) (hg : g.val % 2 = 0) (r : Fin 16) (l : Fin 128) :
    lhsPiece v g (ix2 r l) = if h : r.val < 8 then xDeq v (ix2 ⟨r.val, h⟩ l) else 0 := by
  unfold lhsPiece
  rw [if_pos hg]
  pointwise

theorem k_lhs_odd (v : Vec Ideal S6x1x128 .bf16) (g : Fin 20) (hg : ¬ g.val % 2 = 0) (r : Fin 16) (l : Fin 128) :
    lhsPiece v g (ix2 r l) = if h : r.val < 8 then 0 else xDeq v (ix2 ⟨r.val - 8, by have := r.isLt; omega⟩ l) := by
  unfold lhsPiece
  rw [if_neg hg]
  pointwise

theorem k_part (L : Vec Ideal S16x256 .bf16) (X : Vec Ideal S512x2560 .bf16) (p b : Fin 2) (k : Fin 10) (r : Fin 16) (l : Fin 128) :
    part L X p k (ix2 r ⟨128 * b.val + l.val, by have := b.isLt; have := l.isLt; omega⟩) =
      (∑ e : Fin 128, L (ix2 r ⟨e.val, by have := e.isLt; omega⟩) * wCodes (wBlk X (rb p b) (g0 k)) (ix2 l e))
      + ∑ e : Fin 128, L (ix2 r ⟨128 + e.val, by have := e.isLt; omega⟩) * wCodes (wBlk X (rb p b) (g1 k)) (ix2 l e) := by
  pointwise [part]
  have hl := l.isLt
  match b with
  | ⟨0, _⟩ =>
    have h : 128 * 0 + l.val < 128 := by omega
    simp only [h, dif_pos]
    have e1 : (⟨128 * 0 + l.val, h⟩ : Fin 128) = l := Fin.ext (by show 128 * 0 + l.val = l.val; omega)
    simp only [e1]; rfl
  | ⟨1, _⟩ =>
    have h : ¬ 128 * 1 + l.val < 128 := by omega
    simp only [h, dif_neg, not_false_eq_true]
    have e1 : ∀ h', (⟨128 * 1 + l.val - 128, h'⟩ : Fin 128) = l := fun _ => Fin.ext (by show 128 * 1 + l.val - 128 = l.val; omega)
    simp only [e1]

theorem k_acc (L : Fin 10 → Vec Ideal S16x256 .bf16) (X : Vec Ideal S512x2560 .bf16) (p b : Fin 2) (acc : FVec Ideal S8x128 .f32)
    (k : Fin 10) (r : Fin 8) (l : Fin 128) : accStep L X p b acc k (ix2 r l) = acc (ix2 r l)
      + part (L k) X p k (ix2 ⟨r.val, by have := r.isLt; omega⟩ ⟨128 * b.val + l.val, by have := b.isLt; have := l.isLt; omega⟩) * wS (wBlk X (rb p b) (g0 k)) (ix2 0 0)
      + part (L k) X p k (ix2 ⟨8 + r.val, by have := r.isLt; omega⟩ ⟨128 * b.val + l.val, by have := b.isLt; have := l.isLt; omega⟩) * wS (wBlk X (rb p b) (g1 k)) (ix2 0 0) := by
  pointwise [accStep]

theorem k_y (L : Fin 10 → Vec Ideal S16x256 .bf16) (X : Vec Ideal S512x2560 .bf16) (p b : Fin 2) (r : Fin 6) (l : Fin 128) :
    yPiece L X p b (ix3 r 0 l) = (steps.foldl (accStep L X p b) (broadcast S8x128 (Scalar.ofBits .f32 0x00000000#32)) : FVec Ideal S8x128 .f32)
      (ix2 ⟨r.val, by have := r.isLt; omega⟩ l) := by
  unfold yPiece
  generalize (List.foldl _ _ _ : FVec Ideal S8x128 .f32) = z
  pointwise

end Cert.KernelIdeal.Block

end
-- ==== Proof.Values.lean ====
/- The kernel's block values are the reference's results, block by block, when every threshold is in range. -/
module

public import proofs.«01_k».proof.Proof.KernelRead

@[expose] public section

noncomputable section

namespace Cert.KernelIdeal.Block

open Idealize.ShloMosaic
open Cert.ReferenceIdeal.Value (G2 G3 G4 G5 G6)

/-- Every group of the activations has its threshold in range. -/
def RangeX (x : Vec Ideal S6x1x2560 .bf16) : Prop := ∀ b g, InRange (amaxX x b g * fac)
/-- Every block of the weights has its threshold in range. -/
def RangeW (w : Vec Ideal S9728x2560 .bf16) : Prop := ∀ i g, InRange (amaxW w i g * fac)

/-- Block row `t` of 512 rows of the weights is `B`. -/
def IsBlk (w : Vec Ideal S9728x2560 .bf16) (t : Fin 19) (B : Vec Ideal S512x2560 .bf16) : Prop :=
  ∀ (i : Fin 512) (d : Fin 2560), B (ix2 i d) = w (ix2 ⟨t.val * 512 + i.val, by have := t.isLt; have := i.isLt; omega⟩ d)

variable (x : Vec Ideal S6x1x2560 .bf16) (w : Vec Ideal S9728x2560 .bf16)

/-- Column `l` of group `g`. -/
abbrev col (g : Fin 20) (l : Fin 128) : Fin 2560 := ⟨g.val * 128 + l.val, by have := g.isLt; have := l.isLt; omega⟩
/-- Block row `r` of the 512 rows of `t`, as a block row of the weights; and its row `i`. -/
abbrev brow (t : Fin 19) (r : Fin 4) : Fin 76 := ⟨t.val * 4 + r.val, by have := t.isLt; have := r.isLt; omega⟩
abbrev row (t : Fin 19) (r : Fin 4) (i : Fin 128) : Fin 9728 :=
  ⟨t.val * 512 + (r.val * 128 + i.val), by have := t.isLt; have := r.isLt; have := i.isLt; omega⟩

theorem dg_col (g : Fin 20) (l : Fin 128) : dg (col g l) = g :=
  Fin.ext (by have := l.isLt; show (g.val * 128 + l.val) / 128 = g.val; omega)
theorem ni_row (t : Fin 19) (r : Fin 4) (i : Fin 128) : ni (row t r i) = brow t r :=
  Fin.ext (by have := i.isLt; show (t.val * 512 + (r.val * 128 + i.val)) / 128 = t.val * 4 + r.val; omega)
theorem col_d (d : Fin 2560) : col (dg d) (dl d) = d :=
  Fin.ext (by show d.val / 128 * 128 + d.val % 128 = d.val; omega)

/-! ## One block -/

variable {x w}

theorem xs_at (hx : RangeX x) (b : Fin 6) (g : Fin 20) : kS (amaxX x b g * fac) = rS (amaxX x b g) := by
  obtain ⟨r, -, h1, h2, -, -⟩ := scale_eq _ (hx b g)
  rw [h1, h2]

theorem xi_at (hx : RangeX x) (b : Fin 6) (g : Fin 20) : kI (amaxX x b g * fac) = Ideal.div 1 (rS (amaxX x b g)) := by
  obtain ⟨r, -, -, h2, h3, h4⟩ := scale_eq _ (hx b g)
  rw [h2, h3, h4]

theorem ws_at (hw : RangeW w) (i : Fin 76) (g : Fin 20) : kS (amaxW w i g * fac) = rS (amaxW w i g) := by
  obtain ⟨r, -, h1, h2, -, -⟩ := scale_eq _ (hw i g)
  rw [h1, h2]

theorem wi_at (hw : RangeW w) (i : Fin 76) (g : Fin 20) : kI (amaxW w i g * fac) = Ideal.div 1 (rS (amaxW w i g)) := by
  obtain ⟨r, -, -, h2, h3, h4⟩ := scale_eq _ (hw i g)
  rw [h2, h3, h4]

theorem xCodes_at (hx : RangeX x) (b : Fin 6) (g : Fin 20) (l : Fin 128) : xCodes (xBlk x g) (ix2 b l) = cX x b (col g l) := by
  rw [k_xC, k_xT, xi_at hx, xBlk_at, cX, dg_col]

theorem xS_at (hx : RangeX x) (b : Fin 6) (g : Fin 20) : xS (xBlk x g) (ix2 b 0) = rS (amaxX x b g) := by
  rw [k_xS, k_xT, xs_at hx]

variable {t : Fin 19} {B : Vec Ideal S512x2560 .bf16}

theorem blk_at (hB : IsBlk w t B) (r : Fin 4) (g : Fin 20) (i l : Fin 128) : wBlk B r g (ix2 i l) = w (ix2 (row t r i) (col g l)) := by
  rw [wBlk_at, hB]

theorem wT_at (hB : IsBlk w t B) (r : Fin 4) (g : Fin 20) : wT (wBlk B r g) (ix2 0 0) = amaxW w (brow t r) g * fac := by
  refine k_wT w _ _ _ fun i l => ?_
  rw [blk_at hB]
  congr 2
  exact Fin.ext (by show t.val * 512 + (r.val * 128 + i.val) = (t.val * 4 + r.val) * 128 + i.val; omega)

theorem wS_at (hw : RangeW w) (hB : IsBlk w t B) (r : Fin 4) (g : Fin 20) : wS (wBlk B r g) (ix2 0 0) = rS (amaxW w (brow t r) g) := by
  rw [k_wS, wT_at hB, ws_at hw]

theorem wCodes_at (hw : RangeW w) (hB : IsBlk w t B) (r : Fin 4) (g : Fin 20) (i l : Fin 128) :
    wCodes (wBlk B r g) (ix2 i l) = cW w (row t r i) (col g l) := by
  rw [k_wC, wT_at hB, wi_at hw, blk_at hB, cW, dg_col, ni_row]

/-! ## Scales and codes -/

/-- An index of a shape whose middle axis is one long. -/
theorem idx3 {m n : Nat} (y : Shape.Idx ⟨3, ![m, 1, n]⟩) : ∃ (b : Fin m) (d : Fin n), y = ix3 b 0 d :=
  ⟨y 0, y 2, (eq_ix3 (n0 := m) (n1 := 1) (n2 := n) y).trans (by congr 1; exact Subsingleton.elim (α := Fin 1) _ _)⟩

theorem val_XS (hx : RangeX x) : XS x = G4 x w := funext fun y => by
  obtain ⟨b, g, rfl⟩ := idx3 (m := 6) (n := 20) y
  rw [k_XS, r_G4, xs_at hx]

theorem val_XC (hx : RangeX x) : XC x = G3 x w := funext fun y => by
  obtain ⟨b, d, rfl⟩ := idx3 (m := 6) (n := 2560) y
  rw [r_G3]
  show xCodes3 (xBlk x (dg d)) (ix3 b 0 (dl d)) = _
  rw [k_xC3, xCodes_at hx, col_d]

theorem val_WC (hw : RangeW w) (hB : IsBlk w t B) (i : Fin 512) (d : Fin 2560) :
    WC B (ix2 i d) = G5 x w (ix2 ⟨t.val * 512 + i.val, by have := t.isLt; have := i.isLt; omega⟩ d) := by
  rw [r_G5]
  show wCodes (wBlk B ⟨i.val / 128, by have := i.isLt; omega⟩ (dg d)) (ix2 ⟨i.val % 128, by omega⟩ (dl d)) = _
  rw [wCodes_at hw hB, col_d]
  congr 1
  exact Fin.ext (by show t.val * 512 + (i.val / 128 * 128 + i.val % 128) = t.val * 512 + i.val; omega)

theorem val_ws (hw : RangeW w) (hB : IsBlk w t B) (r : Fin 4) (g : Fin 20) : wsRow B r (ix2 0 g) = G6 x w (ix2 (brow t r) g) := by
  rw [k_wsRow, wS_at hw hB, r_G6]

/-! ## The product -/

/-- Step `k`'s 256 columns of the left operand. -/
def Lp (x : Vec Ideal S6x1x2560 .bf16) (k : Fin 10) : Vec Ideal S16x256 .bf16 := View.ld (LHS x) (lRect k)

theorem Lp_lo (k : Fin 10) (r : Fin 16) (e : Fin 128) :
    Lp x k (ix2 r ⟨e.val, by have := e.isLt; omega⟩) = LHS x (ix2 r (col (g0 k) e)) := by
  pointwise [Lp]
  congr 2
  exact Fin.ext (by show 256 * k.val + e.val = 2 * k.val * 128 + e.val; omega)

theorem Lp_hi (k : Fin 10) (r : Fin 16) (e : Fin 128) :
    Lp x k (ix2 r ⟨128 + e.val, by have := e.isLt; omega⟩) = LHS x (ix2 r (col (g1 k) e)) := by
  pointwise [Lp]
  congr 2
  exact Fin.ext (by show 256 * k.val + (128 + e.val) = (2 * k.val + 1) * 128 + e.val; omega)

theorem LHS_at (r : Fin 16) (g : Fin 20) (e : Fin 128) : LHS x (ix2 r (col g e)) = lhsPiece (xBlk x g) g (ix2 r e) := by
  show lhsPiece (xBlk x (dg (col g e))) (dg (col g e)) (ix2 r (dl (col g e))) = _
  rw [dg_col]
  congr 2
  exact Fin.ext (by have := e.isLt; show (g.val * 128 + e.val) % 128 = e.val; omega)

/-- An even group's row in the upper half, and zeros in the lower; an odd group's the other way round. -/
theorem LHS_even (hx : RangeX x) (b : Fin 6) (k : Fin 10) (e : Fin 128) :
    LHS x (ix2 ⟨b.val, by have := b.isLt; omega⟩ (col (g0 k) e)) = cX x b (col (g0 k) e) * rS (amaxX x b (g0 k))
    ∧ LHS x (ix2 ⟨8 + b.val, by have := b.isLt; omega⟩ (col (g0 k) e)) = 0 := by
  have hb := b.isLt
  have hg : (g0 k).val % 2 = 0 := by show 2 * k.val % 2 = 0; omega
  constructor
  · rw [LHS_at, k_lhs_even _ _ hg, dif_pos (show b.val < 8 by omega), k_xDeq, xCodes_at hx, xS_at hx]
  · rw [LHS_at, k_lhs_even _ _ hg, dif_neg (show ¬ 8 + b.val < 8 by omega)]

theorem LHS_odd (hx : RangeX x) (b : Fin 6) (k : Fin 10) (e : Fin 128) :
    LHS x (ix2 ⟨8 + b.val, by have := b.isLt; omega⟩ (col (g1 k) e)) = cX x b (col (g1 k) e) * rS (amaxX x b (g1 k))
    ∧ LHS x (ix2 ⟨b.val, by have := b.isLt; omega⟩ (col (g1 k) e)) = 0 := by
  have hb := b.isLt
  have hg : ¬ (g1 k).val % 2 = 0 := by show ¬ (2 * k.val + 1) % 2 = 0; omega
  constructor
  · rw [LHS_at, k_lhs_odd _ _ hg, dif_neg (show ¬ 8 + b.val < 8 by omega)]
    rw [show (⟨8 + b.val - 8, by omega⟩ : Fin 8) = ⟨b.val, by omega⟩ from Fin.ext (by show 8 + b.val - 8 = b.val; omega)]
    rw [k_xDeq, xCodes_at hx, xS_at hx]
  · rw [LHS_at, k_lhs_odd _ _ hg, dif_pos (show b.val < 8 by omega)]

/-- Group `g`'s share of one element of the product: the codes multiplied and added, then the weights' scale. -/
def share (x : Vec Ideal S6x1x2560 .bf16) (w : Vec Ideal S9728x2560 .bf16) (b : Fin 6) (n : Fin 9728) (g : Fin 20) : EReal :=
  (∑ e : Fin 128, cX x b (col g e) * rS (amaxX x b g) * cW w n (col g e)) * rS (amaxW w (ni n) g)

theorem step_at (hx : RangeX x) (hw : RangeW w) (hB : IsBlk w t B) (b : Fin 6) (p q : Fin 2) (l : Fin 128) (acc : FVec Ideal S8x128 .f32)
    (k : Fin 10) : accStep (Lp x) B p q acc k (ix2 ⟨b.val, by have := b.isLt; omega⟩ l)
      = acc (ix2 ⟨b.val, by have := b.isLt; omega⟩ l) + share x w b (row t (rb p q) l) (g0 k) + share x w b (row t (rb p q) l) (g1 k) := by
  rw [k_acc, k_part, k_part]
  simp only [Lp_lo, Lp_hi, (LHS_even hx b k _).1, (LHS_even hx b k _).2, (LHS_odd hx b k _).1, (LHS_odd hx b k _).2, wCodes_at hw hB,
    wS_at hw hB, zero_mul, Finset.sum_const_zero, add_zero, zero_add]
  unfold share
  rw [ni_row]

/-- Ten steps of two groups each add up the twenty groups. -/
theorem foldl_steps {α : Type*} (f : α → Fin 10 → α) (rd : α → EReal) (T : Fin 20 → EReal)
    (hf : ∀ a k, rd (f a k) = rd a + T (g0 k) + T (g1 k)) (a : α) (ha : rd a = 0) : rd (steps.foldl f a) = ∑ g, T g := by
  simp only [steps, List.foldl_cons, List.foldl_nil, hf, ha, zero_add]
  simp only [Fin.sum_univ_succ, Fin.sum_univ_zero, add_zero, add_assoc]
  rfl

/-- A positive real factor goes into a sum. -/
theorem sum_mul_real {ι : Type*} (s : Finset ι) (f : ι → EReal) (r : ℝ) (hr : 0 < r) : (∑ i ∈ s, f i) * (r : EReal) = ∑ i ∈ s, f i * r := by
  classical
  induction s using Finset.induction_on with
  | empty => simp
  | insert a s ha ih =>
    rw [Finset.sum_insert ha, Finset.sum_insert ha, ← ih]
    exact EReal.right_distrib_of_nonneg_of_ne_top (EReal.coe_nonneg.mpr hr.le) (EReal.coe_ne_top r) _ _

theorem share_eq (hw : RangeW w) (b : Fin 6) (n : Fin 9728) (g : Fin 20) :
    share x w b n g = ∑ e : Fin 128, cX x b (col g e) * rS (amaxX x b g) * (cW w n (col g e) * rS (amaxW w (ni n) g)) := by
  obtain ⟨r, hr, -, h2, -, -⟩ := scale_eq _ (hw (ni n) g)
  unfold share
  rw [h2, sum_mul_real _ _ r hr]
  exact Finset.sum_congr rfl fun e _ => mul_assoc _ _ _

theorem sum_cols (f : Fin 2560 → EReal) : ∑ d, f d = ∑ g : Fin 20, ∑ e : Fin 128, f (col g e) := by
  rw [← Fintype.sum_prod_type' (f := fun g e => f (col g e))]
  refine (Fintype.sum_equiv (finProdFinEquiv (m := 20) (n := 128)) _ f fun y => ?_).symm
  refine congrArg f (Fin.ext ?_)
  show y.1.val * 128 + y.2.val = y.2.val + 128 * y.1.val
  omega

theorem val_YB (hx : RangeX x) (hw : RangeW w) (hB : IsBlk w t B) (b : Fin 6) (n : Fin 512) :
    YB (fun k => View.ld (LHS x) (lRect k)) B (ix3 b 0 n) = G2 x w (ix3 b 0 ⟨t.val * 512 + n.val, by have := t.isLt; have := n.isLt; omega⟩) := by
  have hn := n.isLt
  rw [r_G2, sum_cols]
  show yPiece (Lp x) B (jp ⟨n.val / 128, by omega⟩) (jb ⟨n.val / 128, by omega⟩) (ix3 b 0 ⟨n.val % 128, by omega⟩) = _
  rw [k_y]
  rw [foldl_steps _ (fun a : FVec Ideal S8x128 .f32 => a (ix2 ⟨b.val, by have := b.isLt; omega⟩ ⟨n.val % 128, by omega⟩)) _
    (fun a k => step_at hx hw hB b _ _ _ a k) _ (by pointwise)]
  have e : row t (rb (jp ⟨n.val / 128, by omega⟩) (jb ⟨n.val / 128, by omega⟩)) ⟨n.val % 128, by omega⟩
      = ⟨t.val * 512 + n.val, by have := t.isLt; omega⟩ :=
    Fin.ext (by show t.val * 512 + ((2 * (n.val / 128 / 2) + n.val / 128 % 2) * 128 + n.val % 128) = t.val * 512 + n.val; omega)
  rw [e]
  refine Finset.sum_congr rfl fun g _ => ?_
  rw [share_eq hw]
  exact Finset.sum_congr rfl fun e _ => by rw [dg_col]

end Cert.KernelIdeal.Block

end
-- ==== Proof.FinalIdeal.lean ====
/- What the kernel's result arrays hold after the run: the reference's results, when every threshold is in range. -/
module

public import proofs.«01_k».proof.Proof.FrameIdeal
public import proofs.«01_k».proof.Proof.Values
public import Idealize.ShloMosaic.Lib.Pipeline.ArrRel

@[expose] public section

set_option maxRecDepth 16384

noncomputable section

namespace Cert.KernelIdeal.Block

open Cert.KernelIdeal Cert.KernelIdeal.Gen
open Idealize.ShloMosaic Idealize.ShloMosaic.TcCoe
open Idealize.SL Idealize.SL.Sem
open Idealize.ShloMosaic.Pipeline (Dat Cfg Window)
open Cert.ReferenceIdeal.Value (G2 G3 G4 G5 G6)

variable (m : (ℓ : Loc nD τ sig) → Buf (Elt Ideal) ℓ)

/-- The two arguments on core `c`. -/
abbrev ax (c : Dev nD) : Vec Ideal S6x1x2560 .bf16 := m ((c : Thread nD τ).loc main_arg0)
abbrev aw (c : Dev nD) : Vec Ideal S9728x2560 .bf16 := m ((c : Thread nD τ).loc main_arg1)

theorem lt19 (t : Fin cfg0.N) : t.val < 19 := lt_of_lt_of_eq t.isLt (show cfg0.N = 19 from N_0)

/-- A grid point as one of the nineteen. -/
abbrev pt (t : Fin cfg0.N) : Fin 19 := ⟨t.val, lt19 t⟩

/-- The last grid point. -/
def tl : Fin cfg0.N := ⟨18, Nat.lt_of_lt_of_eq (by decide : 18 < 19) N_0.symm⟩

/-! ## Where each block lies in its array -/

theorem coord0 : ∀ t : Fin cfg0.N, ((grid0.coords t) 0).val = t.val := (by decide +kernel : ∀ t : Fin grid0.N, _)

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = t.val :=
  (by decide +kernel : ∀ t : Fin grid0.N, _)
theorem idx3' : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

theorem emb0 (t : Fin cfg0.N) (j : S6x1x2560.Idx) : ((cfg0.win 0).blk t).view.emb j = j := by
  obtain ⟨e0, e1, e2⟩ := idx0 t
  funext a; apply Fin.ext
  match a with
  | ⟨0, _⟩ => show win0_0.index t (0 : Fin 3) * 6 + 1 * (j 0).val = (j 0).val; omega
  | ⟨1, _⟩ => show win0_0.index t (1 : Fin 3) * 1 + 1 * (j 1).val = (j 1).val; omega
  | ⟨2, _⟩ => show win0_0.index t (2 : Fin 3) * 2560 + 1 * (j 2).val = (j 2).val; omega

theorem emb1 (t : Fin cfg0.N) (i : Fin 512) (d : Fin 2560) : ((cfg0.win 1).blk t).view.emb (ix2 i d) =
    (ix2 ⟨(pt t).val * 512 + i.val, by have := (pt t).isLt; have := i.isLt; omega⟩ d : S9728x2560.Idx) := by
  obtain ⟨e0, e1⟩ := idx1 t
  funext a; apply Fin.ext
  match a with
  | ⟨0, _⟩ => show win0_1.index t (0 : Fin 2) * 512 + 1 * i.val = t.val * 512 + i.val; omega
  | ⟨1, _⟩ => show win0_1.index t (1 : Fin 2) * 2560 + 1 * d.val = d.val; omega

theorem emb2 (t : Fin cfg0.N) (b : Fin 6) (n : Fin 512) : ((cfg0.win 2).blk t).view.emb (ix3 b 0 n) =
    (ix3 b 0 ⟨(pt t).val * 512 + n.val, by have := (pt t).isLt; have := n.isLt; omega⟩ : S6x1x9728.Idx) := by
  obtain ⟨e0, e1, e2⟩ := idx2 t
  funext a; apply Fin.ext
  match a with
  | ⟨0, _⟩ => show win0_2.index t (0 : Fin 3) * 6 + 1 * b.val = b.val; omega
  | ⟨1, _⟩ => show win0_2.index t (1 : Fin 3) * 1 + 1 * 0 = 0; omega
  | ⟨2, _⟩ => show win0_2.index t (2 : Fin 3) * 512 + 1 * n.val = t.val * 512 + n.val; omega

theorem emb3 (t : Fin cfg0.N) (j : S6x1x2560.Idx) : ((cfg0.win 3).blk t).view.emb j = j := by
  obtain ⟨e0, e1, e2⟩ := idx3' t
  funext a; apply Fin.ext
  match a with
  | ⟨0, _⟩ => show win0_3.index t (0 : Fin 3) * 6 + 1 * (j 0).val = (j 0).val; omega
  | ⟨1, _⟩ => show win0_3.index t (1 : Fin 3) * 1 + 1 * (j 1).val = (j 1).val; omega
  | ⟨2, _⟩ => show win0_3.index t (2 : Fin 3) * 2560 + 1 * (j 2).val = (j 2).val; omega

theorem emb4 (t : Fin cfg0.N) (j : S6x1x20.Idx) : ((cfg0.win 4).blk t).view.emb j = j := by
  obtain ⟨e0, e1, e2⟩ := idx4 t
  funext a; apply Fin.ext
  match a with
  | ⟨0, _⟩ => show win0_4.index t (0 : Fin 3) * 6 + 1 * (j 0).val = (j 0).val; omega
  | ⟨1, _⟩ => show win0_4.index t (1 : Fin 3) * 1 + 1 * (j 1).val = (j 1).val; omega
  | ⟨2, _⟩ => show win0_4.index t (2 : Fin 3) * 20 + 1 * (j 2).val = (j 2).val; omega

theorem emb5 (t : Fin cfg0.N) (i : Fin 512) (d : Fin 2560) : ((cfg0.win 5).blk t).view.emb (ix2 i d) =
    (ix2 ⟨(pt t).val * 512 + i.val, by have := (pt t).isLt; have := i.isLt; omega⟩ d : S9728x2560.Idx) := by
  obtain ⟨e0, e1⟩ := idx5 t
  funext a; apply Fin.ext
  match a with
  | ⟨0, _⟩ => show win0_5.index t (0 : Fin 2) * 512 + 1 * i.val = t.val * 512 + i.val; omega
  | ⟨1, _⟩ => show win0_5.index t (1 : Fin 2) * 2560 + 1 * d.val = d.val; omega

theorem emb6 (t : Fin cfg0.N) (j : S76x20.Idx) : ((cfg0.win 6).blk t).view.emb j = j := by
  obtain ⟨e0, e1⟩ := idx6 t
  funext a; apply Fin.ext
  match a with
  | ⟨0, _⟩ => show win0_6.index t (0 : Fin 2) * 76 + 1 * (j 0).val = (j 0).val; omega
  | ⟨1, _⟩ => show win0_6.index t (1 : Fin 2) * 20 + 1 * (j 1).val = (j 1).val; omega

/-! ## The blocks that the body reads -/

theorem xin_eq (c : Dev nD) : xin m c = ax m c := by
  funext j
  show V m c main_arg0 (((cfg0.win 0).blk t0).view.emb j) = _
  rw [emb0, V_main_arg0]

theorem win_blk (c : Dev nD) (t : Fin cfg0.N) : IsBlk (aw m c) (pt t) (win m c t) := by
  intro i d
  show V m c main_arg1 (((cfg0.win 1).blk t).view.emb (ix2 i d)) = _
  rw [emb1, V_main_arg1]

/-! ## Every result array -/

variable {m}

/-- The exact data's array is `G` when what it leaves at the flushing points is `G`'s block. -/
theorem leaves_2 {c : Dev nD} {t : Fin cfg0.N} {X} (h : (rdat m c).Leaves 2 t X) : X = yOut m c t := by
  obtain ⟨Y, -, h⟩ := h
  have e := (dats m 0 c).toR.override_after_of_eq_none (ovr := ovr m c) (w := 2) rfl
  have h' : ((dats m 0 c).toR.override (ovr m c)).after 2 t Y X := h
  rw [e] at h'; exact h'

theorem leaves_5 {c : Dev nD} {t : Fin cfg0.N} {X} (h : (rdat m c).Leaves 5 t X) : X = WC (win m c t) := by
  obtain ⟨Y, -, h⟩ := h
  have e := (dats m 0 c).toR.override_after_of_eq_none (ovr := ovr m c) (w := 5) rfl
  have h' : ((dats m 0 c).toR.override (ovr m c)).after 5 t Y X := h
  rw [e] at h'; exact h'

theorem leaves_3 {c : Dev nD} {t : Fin cfg0.N} {X} (h : (rdat m c).Leaves 3 t X) : X = XC (xin m c) := by
  obtain ⟨Y, -, h⟩ := h
  exact (rafter0_3 m c t Y X).mp h

theorem leaves_4 {c : Dev nD} {t : Fin cfg0.N} {X} (h : (rdat m c).Leaves 4 t X) : X = XS (xin m c) := by
  obtain ⟨Y, -, h⟩ := h
  exact (rafter0_4 m c t Y X).mp h

/-- A row that point `t` writes is the reference's. -/
theorem put_new {c : Dev nD} (hw : RangeW (aw m c)) (t : Fin cfg0.N) (Y : Vec Ideal S76x20 .f32) (i : Fin 76) (g : Fin 20)
    (h1 : 4 * t.val ≤ i.val) (h2 : i.val < 4 * t.val + 4) :
    WSput (grid0.coords t) (win m c t) Y (ix2 i g) = G6 (ax m c) (aw m c) (ix2 i g) := by
  have ec := coord0 t
  have hc : 4 * ((grid0.coords t) 0).val ≤ i.val ∧ i.val < 4 * ((grid0.coords t) 0).val + 4 := by rw [ec]; exact ⟨h1, h2⟩
  have e : WSput (grid0.coords t) (win m c t) Y (ix2 i g)
      = wsRow (win m c t) ⟨i.val - 4 * ((grid0.coords t) 0).val, by omega⟩ (ix2 0 g) := dif_pos hc
  rw [e, val_ws (x := ax m c) hw (win_blk m c t)]
  congr 2
  exact Fin.ext (by show t.val * 4 + (i.val - 4 * ((grid0.coords t) 0).val) = i.val; rw [ec]; omega)

/-- A row that it does not write stays. -/
theorem put_old {c : Dev nD} (t : Fin cfg0.N) (Y : Vec Ideal S76x20 .f32) (i : Fin 76) (g : Fin 20) (h1 : i.val < 4 * t.val) :
    WSput (grid0.coords t) (win m c t) Y (ix2 i g) = Y (ix2 i g) :=
  dif_neg (fun h => by have h0 := h.1; rw [coord0 t] at h0; exact absurd h1 (Nat.not_lt.mpr h0))

/-- After point `n` the first `4 (n + 1)` rows of the window of weight scales are the reference's. -/
theorem leaves_6 {c : Dev nD} (hw : RangeW (aw m c)) : ∀ (n : Nat) (hn : n < cfg0.N) (X : Vec Ideal S76x20 .f32),
    (rdat m c).Leaves 6 ⟨n, hn⟩ X → ∀ (i : Fin 76) (g : Fin 20), i.val < 4 * (n + 1) → X (ix2 i g) = G6 (ax m c) (aw m c) (ix2 i g) := by
  intro n
  induction n with
  | zero =>
    rintro hn X ⟨Y, -, h⟩ i g hi
    rw [(rafter0_6 m c _ Y X).mp h]
    exact put_new hw ⟨0, hn⟩ Y i g (Nat.zero_le _) (by show i.val < 4 * 0 + 4; omega)
  | succ n ih =>
    rintro hn X ⟨Y, hF, h⟩ i g hi
    rw [(rafter0_6 m c _ Y X).mp h]
    by_cases hi' : i.val < 4 * (n + 1)
    · rw [put_old ⟨n + 1, hn⟩ Y i g hi']
      rcases ((rdat m c).finds_of_pos (t := ⟨n + 1, hn⟩) rfl (Nat.succ_ne_zero n) Y).mp hF with hf | hl
      · have h18 := (flush0_6 _).mp hf
        have := lt19 ⟨n + 1, hn⟩
        simp only [Nat.add_sub_cancel] at h18 this
        omega
      · exact ih (Nat.lt_of_succ_lt hn) Y hl i g hi'
    · exact put_new hw ⟨n + 1, hn⟩ Y i g (Nat.not_lt.mp hi') (by show i.val < 4 * (n + 1) + 4; omega)

/-- What the last point leaves there is the reference's result. -/
theorem left6 {c : Dev nD} (hw : RangeW (aw m c)) (t : Fin cfg0.N) (ht : (cfg0.win 6).flush t = true) (X : Vec Ideal S76x20 .f32)
    (hX : (rdat m c).Leaves 6 t X) : X = G6 (ax m c) (aw m c) := by
  have h18 : t.val % 19 = 18 := (flush0_6 t).mp ht
  have h19 := lt19 t
  funext j
  obtain ⟨i, g, rfl⟩ : ∃ (i : Fin 76) (g : Fin 20), j = ix2 i g := ⟨j 0, j 1, eq_ix2 (n0 := 76) (n1 := 20) j⟩
  exact leaves_6 hw t.val t.isLt X hX i g (by have := i.isLt; omega)

theorem cut6 (t : Fin cfg0.N) (X : Vec Ideal S76x20 .f32) :
    (cfg0.win 6).cut (grid0.coords t) X = ((cfg0.win 6).blk t).view.read (Elt Ideal) X := by
  funext j
  show X j = X (((cfg0.win 6).blk t).view.emb j)
  rw [emb6]

section arrays

variable {c : Dev nD} (hx : RangeX (ax m c)) (hw : RangeW (aw m c))
  {after : (w' : Fin cfg0.W) → Fin cfg0.N → (cfg0.win w').block.Idx → Elt Ideal (cfg0.win w').elt}
  (hL : ∀ (w : Fin cfg0.W) (u : Fin cfg0.N), (cfg0.win w).flush u = true → (rdat m c).Leaves w u (after w u))

include hx hw hL

theorem flushed2 (t : Fin cfg0.N) : ((rdat m c).withAfter after).flushed 2 t
    = ((cfg0.win 2).blk t).view.read (Elt Ideal) (G2 (ax m c) (aw m c)) := by
  show (cfg0.win 2).cut (grid0.coords t) (after 2 t) = _
  rw [leaves_2 (hL 2 t (flush0_2 t))]
  funext j
  obtain ⟨b, n, rfl⟩ := Cert.KernelIdeal.Block.idx3 (m := 6) (n := 512) j
  show yOut m c t (ix3 b 0 n) = G2 (ax m c) (aw m c) (((cfg0.win 2).blk t).view.emb (ix3 b 0 n))
  rw [emb2, yOut, xin_eq]
  exact val_YB hx hw (win_blk m c t) b n

theorem flushed5 (t : Fin cfg0.N) : ((rdat m c).withAfter after).flushed 5 t
    = ((cfg0.win 5).blk t).view.read (Elt Ideal) (G5 (ax m c) (aw m c)) := by
  show (cfg0.win 5).cut (grid0.coords t) (after 5 t) = _
  rw [leaves_5 (hL 5 t (flush0_5 t))]
  funext j
  obtain ⟨i, d, rfl⟩ : ∃ (i : Fin 512) (d : Fin 2560), j = ix2 i d := ⟨j 0, j 1, eq_ix2 (n0 := 512) (n1 := 2560) j⟩
  show WC (win m c t) (ix2 i d) = G5 (ax m c) (aw m c) (((cfg0.win 5).blk t).view.emb (ix2 i d))
  rw [emb5]
  exact val_WC hw (win_blk m c t) i d

theorem flushed3 (t : Fin cfg0.N) (ht : (cfg0.win 3).flush t = true) : ((rdat m c).withAfter after).flushed 3 t
    = ((cfg0.win 3).blk t).view.read (Elt Ideal) (G3 (ax m c) (aw m c)) := by
  show (cfg0.win 3).cut (grid0.coords t) (after 3 t) = _
  rw [leaves_3 (hL 3 t ht)]
  funext j
  show XC (xin m c) j = G3 (ax m c) (aw m c) (((cfg0.win 3).blk t).view.emb j)
  rw [emb3, xin_eq, val_XC hx]

theorem flushed4 (t : Fin cfg0.N) (ht : (cfg0.win 4).flush t = true) : ((rdat m c).withAfter after).flushed 4 t
    = ((cfg0.win 4).blk t).view.read (Elt Ideal) (G4 (ax m c) (aw m c)) := by
  show (cfg0.win 4).cut (grid0.coords t) (after 4 t) = _
  rw [leaves_4 (hL 4 t ht)]
  funext j
  show XS (xin m c) j = G4 (ax m c) (aw m c) (((cfg0.win 4).blk t).view.emb j)
  rw [emb4, xin_eq, val_XS hx]

theorem flushed6 (t : Fin cfg0.N) (ht : (cfg0.win 6).flush t = true) : ((rdat m c).withAfter after).flushed 6 t
    = ((cfg0.win 6).blk t).view.read (Elt Ideal) (G6 (ax m c) (aw m c)) :=
  (congrArg ((cfg0.win 6).cut (grid0.coords t)) (left6 hw t ht (after 6 t) (hL 6 t ht))).trans (cut6 t _)

theorem final2 : ((rdat m c).withAfter after).arrAt 2 cfg0.N = G2 (ax m c) (aw m c) :=
  ((rdat m c).withAfter after).arrAt_eq_of_cover 2 _ (fun t _ => flushed2 hx hw hL t) fun i => by
    obtain ⟨b, n, rfl⟩ := Cert.KernelIdeal.Block.idx3 (m := 6) (n := 9728) i
    have hn := n.isLt
    have e : ∀ h, (⟨n.val / 512 * 512 + n.val % 512, h⟩ : Fin 9728) = n := fun _ =>
      Fin.ext (by show n.val / 512 * 512 + n.val % 512 = n.val; omega)
    refine ⟨⟨n.val / 512, by rw [show cfg0.N = 19 from N_0]; omega⟩, flush0_2 _, ?_⟩
    have h := ((cfg0.win 2).blk (⟨n.val / 512, by rw [show cfg0.N = 19 from N_0]; omega⟩ : Fin cfg0.N)).view.emb_mem_set
      (ix3 b 0 ⟨n.val % 512, by omega⟩ : S6x1x512.Idx)
    rw [emb2, e] at h
    exact h

theorem final5 : ((rdat m c).withAfter after).arrAt 5 cfg0.N = G5 (ax m c) (aw m c) :=
  ((rdat m c).withAfter after).arrAt_eq_of_cover 5 _ (fun t _ => flushed5 hx hw hL t) fun i => by
    obtain ⟨n, d, rfl⟩ : ∃ (n : Fin 9728) (d : Fin 2560), i = ix2 n d := ⟨i 0, i 1, eq_ix2 (n0 := 9728) (n1 := 2560) i⟩
    have hn := n.isLt
    have e : ∀ h, (⟨n.val / 512 * 512 + n.val % 512, h⟩ : Fin 9728) = n := fun _ =>
      Fin.ext (by show n.val / 512 * 512 + n.val % 512 = n.val; omega)
    refine ⟨⟨n.val / 512, by rw [show cfg0.N = 19 from N_0]; omega⟩, flush0_5 _, ?_⟩
    have h := ((cfg0.win 5).blk (⟨n.val / 512, by rw [show cfg0.N = 19 from N_0]; omega⟩ : Fin cfg0.N)).view.emb_mem_set
      (ix2 ⟨n.val % 512, by omega⟩ d : S512x2560.Idx)
    rw [emb5, e] at h
    exact h

theorem final3 : ((rdat m c).withAfter after).arrAt 3 cfg0.N = G3 (ax m c) (aw m c) :=
  ((rdat m c).withAfter after).arrAt_eq_of_cover 3 _ (fun t ht => flushed3 hx hw hL t ht) fun i =>
    ⟨tl, (flush0_3 tl).mpr rfl, by have h := ((cfg0.win 3).blk tl).view.emb_mem_set i; rwa [emb3] at h⟩

theorem final4 : ((rdat m c).withAfter after).arrAt 4 cfg0.N = G4 (ax m c) (aw m c) :=
  ((rdat m c).withAfter after).arrAt_eq_of_cover 4 _ (fun t ht => flushed4 hx hw hL t ht) fun i =>
    ⟨tl, (flush0_4 tl).mpr rfl, by have h := ((cfg0.win 4).blk tl).view.emb_mem_set i; rwa [emb4] at h⟩

theorem final6 : ((rdat m c).withAfter after).arrAt 6 cfg0.N = G6 (ax m c) (aw m c) :=
  ((rdat m c).withAfter after).arrAt_eq_of_cover 6 _ (fun t ht => flushed6 hx hw hL t ht) fun i =>
    ⟨tl, (flush0_6 tl).mpr rfl, by have h := ((cfg0.win 6).blk tl).view.emb_mem_set i; rwa [emb6] at h⟩

end arrays

/-- The run: every result array ends as the reference's result, the arguments unchanged. -/
theorem run (ρ : Dev nD → PrngReg) (hx : ∀ c, RangeX (ax m c)) (hw : ∀ c, RangeW (aw m c)) :
    θ_run (defs (F := Ideal)) (onTc (τ := τ) (main (F := Ideal))) ⟨m, fun _ => 0, ρ⟩ fun r => ∀ c : Dev nD,
      r.2.mem ((c : Thread nD τ).loc main_v0_0) = G2 (ax m c) (aw m c)
      ∧ r.2.mem ((c : Thread nD τ).loc main_v0_1) = G3 (ax m c) (aw m c)
      ∧ r.2.mem ((c : Thread nD τ).loc main_v0_2) = G4 (ax m c) (aw m c)
      ∧ r.2.mem ((c : Thread nD τ).loc main_v0_3) = G5 (ax m c) (aw m c)
      ∧ r.2.mem ((c : Thread nD τ).loc main_v0_4) = G6 (ax m c) (aw m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    obtain ⟨after, hL, hA⟩ := Pipeline.RDat.FramePost.exists_exact h.1 c
    exact ⟨(hA 2).trans (final2 (hx c) (hw c) hL), (hA 3).trans (final3 (hx c) (hw c) hL), (hA 4).trans (final4 (hx c) (hw c) hL),
      (hA 5).trans (final5 (hx c) (hw c) hL), (hA 6).trans (final6 (hx c) (hw c) hL), args_of m r h.1 c⟩) (run_main_quiescent m ρ)

end Cert.KernelIdeal.Block

end
-- ==== Proof.PreRead.lean ====
/- What the precondition says of the arguments: every group's and every block's threshold is in range. -/
module

public import proofs.«01_k».proof.Proof.Values
public import proofs.«01_k».proof.Pre_scales_in_range
public import Idealize.ShloMosaic.Lib.ReduceAll

@[expose] public section

noncomputable section

namespace Cert.KernelIdeal.Block

open Idealize.ShloMosaic

theorem word_lo : Ideal.ofBits .f32 8388608#32 = (((2 : ℝ) ^ (-126 : ℤ) : ℝ) : EReal) :=
  (congrArg (Ideal.ofBits .f32) (show (8388608#32 : BitVec 32) = IntOp.shli ArithUnit.vector (BitVec.ofNat 32 1) 23#32 by decide)).trans
    ((ofBits_word 1 (by decide) (by decide)).trans (by norm_num))

theorem word_hi : Ideal.ofBits .f32 2122317824#32 = (((2 : ℝ) ^ (126 : ℤ) : ℝ) : EReal) :=
  (congrArg (Ideal.ofBits .f32) (show (2122317824#32 : BitVec 32) = IntOp.shli ArithUnit.vector (BitVec.ofNat 32 253) 23#32 by decide)).trans
    ((ofBits_word 253 (by decide) (by decide)).trans (by norm_num))

/-- The test of one threshold. -/
theorem inRange_of (t : EReal) {d₁ : Decidable (t = 0)} {d₂ : Decidable (Ideal.ofBits .f32 8388608#32 ≤ t)}
    {d₃ : Decidable (t < Ideal.ofBits .f32 2122317824#32)}
    (h : IntOp.ori (BitVec.ofBool (decide (t = 0))) (IntOp.andi (BitVec.ofBool (decide (Ideal.ofBits .f32 8388608#32 ≤ t)))
      (BitVec.ofBool (decide (t < Ideal.ofBits .f32 2122317824#32)))) = 1#1) : InRange t := by
  by_cases h1 : t = 0
  · exact .inl h1
  by_cases h2 : Ideal.ofBits .f32 8388608#32 ≤ t
  · by_cases h3 : t < Ideal.ofBits .f32 2122317824#32
    · exact .inr ⟨word_lo ▸ h2, word_hi ▸ h3⟩
    · rw [decide_eq_false h1, decide_eq_true h2, decide_eq_false h3] at h; exact absurd h (by decide)
  · rw [decide_eq_false h1, decide_eq_false h2] at h
    exact absurd h (by cases decide (t < Ideal.ofBits .f32 2122317824#32) <;> decide)

variable [Cert.Pre_scales_in_range.Facts]

theorem pre_reads (x : Vec Ideal S6x1x2560 .bf16) (w : Vec Ideal S9728x2560 .bf16)
    (h : Cert.Pre_scales_in_range.fn (F := Ideal) x w = fun _ => 1#1) : RangeX x ∧ RangeW w := by
  have h0 := congrFun h (Shape.Idx.first Cert.Pre_scales_in_range.Facts.h_S_)
  unfold Cert.Pre_scales_in_range.fn Cert.Pre_scales_in_range.fn_part1 at h0
  dsimp only at h0
  obtain ⟨hx, hw⟩ := IntOp.andi_eq_one.mp h0
  constructor
  · intro b g
    have hb := Host.reduce_andi_all (t := Cert.Pre_scales_in_range.S_) _ _ _ _ _ hx (ix3 b 0 g)
    pointwise at hb
    exact inRange_of _ hb
  · intro i g
    have hb := Host.reduce_andi_all (t := Cert.Pre_scales_in_range.S_) _ _ _ _ _ hw (ix2 i g)
    pointwise at hb
    exact inRange_of _ hb

end Cert.KernelIdeal.Block

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_scales_in_range
public import proofs.«01_k».proof.Proof.BitsFrame
public import proofs.«01_k».proof.Proof.FinalIdeal
public import proofs.«01_k».proof.Proof.PreRead
public import Idealize.ShloMosaic.Adequacy
public import Idealize.ShloMosaic.Init

@[expose] public section

noncomputable section

namespace Cert.Proof

open Idealize.ShloMosaic Idealize.SL.Sem Cert.Kernel

/-- The value claim: the kernel's final arrays and the reference's are the same five functions of the arguments. -/
theorem values : Cert.algebraic_KernelIdeal_ReferenceIdeal_pre_scales_in_range := by
  intro m g m' g' hpre hargs
  have hr := fun c => Cert.KernelIdeal.Block.pre_reads _ _ (hpre c)
  refine ⟨_, _, _, _, _, Cert.KernelIdeal.Block.run g (fun c => (hr c).1) (fun c => (hr c).2), ?_⟩
  refine (θ_run _ _ _).mono (fun r h c => ?_) (Cert.ReferenceIdeal.Value.run m' g')
  obtain ⟨h2, h3, h4, h5, h6, h0, h1⟩ := h c
  obtain ⟨e0, e1⟩ := hargs c
  rw [e0, e1] at h2 h3 h4 h5 h6
  exact ⟨h2, h3, h4, h5, h6, h0, h1⟩

theorem claim : Cert.Claim := ⟨Cert.Kernel.Gen.facts, Cert.KernelIdeal.Gen.facts, Cert.ReferenceIdeal.Gen.facts, Cert.Pre_scales_in_range.Gen.facts,
  fun m g _ => Cert.Kernel.Block.frame m g,
  fun m g _ => Cert.KernelIdeal.Block.frame m g,
  fun m g _ => Cert.KernelIdeal.Block.frame m g,
  fun m g _ => Cert.ReferenceIdeal.Gen.frame m g,
  fun m g _ => Cert.ReferenceIdeal.Gen.frame m g,
  trivial,
  values⟩

end Cert.Proof

end
